-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "scale" .bf16 0x3E39#16 (((1 / 8) * (Real.log 2)⁻¹ : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.blockN ⟨4, ![2, 512, 8, 64]⟩ ⟨4, ![2, 1024, 8, 64]⟩ (Layout.meshBlock [2, 2, 2] ![[], [0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![2, 512, 8, 64]⟩ ⟨4, ![2, 1024, 8, 64]⟩ (Layout.meshBlock [2, 2, 2] ![[], [0], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![2, 512, 8, 64]⟩ ⟨4, ![2, 1024, 8, 64]⟩ (Layout.meshBlock [2, 2, 2] ![[], [0], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = Layout.blockN ⟨4, ![2, 512, 8, 64]⟩ ⟨4, ![2, 1024, 8, 64]⟩ (Layout.meshBlock [2, 2, 2] ![[], [0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x8x64 : Shape := ⟨4, ![2, 512, 8, 64]⟩
abbrev S_ : Shape := ⟨0, ![]⟩

class Facts : Prop where
  bcast_S_S2x512x8x64 : S_.BroadcastsInDim S2x512x8x64 (![] : Fin 0 → Fin S2x512x8x64.rank)
  reducesTo_S2x512x8x64_S_d0_1_2_3 : S2x512x8x64.ReducesTo [0, 1, 2, 3] S_
  h_S_ : 0 < S_.numel

variable [Facts]

def fn {F : FTy → Type} [FloatOps F] (main_arg0 : FVec F S2x512x8x64 .bf16) (main_arg1 : FVec F S2x512x8x64 .bf16) (main_arg2 : FVec F S2x512x8x64 .bf16) : IVec S_ 1 :=
  let main_v0 : FVec F S2x512x8x64 .bf16 := Host.absf main_arg0
  let main_cst : FVec F S_ .bf16 := constant S_ .bf16 0x7F80#16
  let main_v1 : FVec F S2x512x8x64 .bf16 := broadcastInDim S2x512x8x64 ![] bcast_S_S2x512x8x64 main_cst
  let main_v2 : IVec S2x512x8x64 1 := cmpf .olt main_v0 main_v1
  let main_c : IVec S_ 1 := constantI S_ 1 1#1
  let main_v3 : IVec S_ 1 := (fun x v => Host.reduce IntOp.andi x v reducesTo_S2x512x8x64_S_d0_1_2_3 h_S_) main_v2 main_c
  let main_v4 : FVec F S2x512x8x64 .bf16 := Host.absf main_arg1
  let main_cst_0 : FVec F S_ .bf16 := constant S_ .bf16 0x7F80#16
  let main_v5 : FVec F S2x512x8x64 .bf16 := broadcastInDim S2x512x8x64 ![] bcast_S_S2x512x8x64 main_cst_0
  let main_v6 : IVec S2x512x8x64 1 := cmpf .olt main_v4 main_v5
  let main_c_1 : IVec S_ 1 := constantI S_ 1 1#1
  let main_v7 : IVec S_ 1 := (fun x v => Host.reduce IntOp.andi x v reducesTo_S2x512x8x64_S_d0_1_2_3 h_S_) main_v6 main_c_1
  let main_v8 : IVec S_ 1 := andi main_v3 main_v7
  main_v8
-- ==== Pre_finite_ReferenceIdeal.lean ====
abbrev S2x1024x8x64 : Shape := ⟨4, ![2, 1024, 8, 64]⟩
abbrev S_ : Shape := ⟨0, ![]⟩

class Facts : Prop where
  bcast_S_S2x1024x8x64 : S_.BroadcastsInDim S2x1024x8x64 (![] : Fin 0 → Fin S2x1024x8x64.rank)
  reducesTo_S2x1024x8x64_S_d0_1_2_3 : S2x1024x8x64.ReducesTo [0, 1, 2, 3] S_
  h_S_ : 0 < S_.numel

variable [Facts]

def fn {F : FTy → Type} [FloatOps F] (main_arg0 : FVec F S2x1024x8x64 .bf16) (main_arg1 : FVec F S2x1024x8x64 .bf16) (main_arg2 : FVec F S2x1024x8x64 .bf16) : IVec S_ 1 :=
  let main_v0 : FVec F S2x1024x8x64 .bf16 := Host.absf main_arg0
  let main_cst : FVec F S_ .bf16 := constant S_ .bf16 0x7F80#16
  let main_v1 : FVec F S2x1024x8x64 .bf16 := broadcastInDim S2x1024x8x64 ![] bcast_S_S2x1024x8x64 main_cst
  let main_v2 : IVec S2x1024x8x64 1 := cmpf .olt main_v0 main_v1
  let main_c : IVec S_ 1 := constantI S_ 1 1#1
  let main_v3 : IVec S_ 1 := (fun x v => Host.reduce IntOp.andi x v reducesTo_S2x1024x8x64_S_d0_1_2_3 h_S_) main_v2 main_c
  let main_v4 : FVec F S2x1024x8x64 .bf16 := Host.absf main_arg1
  let main_cst_0 : FVec F S_ .bf16 := constant S_ .bf16 0x7F80#16
  let main_v5 : FVec F S2x1024x8x64 .bf16 := broadcastInDim S2x1024x8x64 ![] bcast_S_S2x1024x8x64 main_cst_0
  let main_v6 : IVec S2x1024x8x64 1 := cmpf .olt main_v4 main_v5
  let main_c_1 : IVec S_ 1 := constantI S_ 1 1#1
  let main_v7 : IVec S_ 1 := (fun x v => Host.reduce IntOp.andi x v reducesTo_S2x1024x8x64_S_d0_1_2_3 h_S_) main_v6 main_c_1
  let main_v8 : IVec S_ 1 := andi main_v3 main_v7
  main_v8
-- ==== Kernel.lean ====
abbrev S2x512x8x64 : Shape := ⟨4, ![2, 512, 8, 64]⟩
abbrev S1024x512 : Shape := ⟨2, ![1024, 512]⟩
abbrev S8 : Shape := ⟨1, ![8]⟩
abbrev S1 : Shape := ⟨1, ![1]⟩
abbrev S_ : Shape := ⟨0, ![]⟩
abbrev S512x512 : Shape := ⟨2, ![512, 512]⟩
abbrev S256x512 : Shape := ⟨2, ![256, 512]⟩
abbrev S512x64 : Shape := ⟨2, ![512, 64]⟩
abbrev S512x128 : Shape := ⟨2, ![512, 128]⟩
abbrev S512x1 : Shape := ⟨2, ![512, 1]⟩
abbrev S256x64 : Shape := ⟨2, ![256, 64]⟩
abbrev S512x256 : Shape := ⟨2, ![512, 256]⟩
abbrev S256x128 : Shape := ⟨2, ![256, 128]⟩

abbrev nBuf : Space → Nat
  | .hbm => 9
  | .vmem => 6
  | .smem => 0
  | _ => 0

abbrev bufTy : (tb : Table) → Fin (tcTables nBuf tb) → BufTy
  | .hbm, ⟨0, _⟩ => ⟨S2x512x8x64, .bf16⟩
  | .hbm, ⟨1, _⟩ => ⟨S2x512x8x64, .bf16⟩
  | .hbm, ⟨2, _⟩ => ⟨S2x512x8x64, .bf16⟩
  | .hbm, ⟨3, _⟩ => ⟨S1024x512, .bf16⟩
  | .hbm, ⟨4, _⟩ => ⟨S1024x512, .bf16⟩
  | .hbm, ⟨5, _⟩ => ⟨S1024x512, .bf16⟩
  | .hbm, ⟨6, _⟩ => ⟨S1024x512, .bf16⟩
  | .hbm, ⟨7, _⟩ => ⟨S2x512x8x64, .bf16⟩
  | .hbm, ⟨8, _⟩ => ⟨S2x512x8x64, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | _, _ => ⟨S2x512x8x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c512_i32 : BitVec 32 := 512#32
  let v11 : BitVec 32 := Scalar.muli v5 c512_i32
  let c0_i32_9 : BitVec 32 := 0#32
  ![v11.toNat, 0]
def k0_off2 (d0 : Dev nD) : Fin 2 → Nat :=
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c512_i32_6 : BitVec 32 := 512#32
  let v13 : BitVec 32 := Scalar.muli v12 c512_i32_6
  let c0_i32_13 : BitVec 32 := 0#32
  ![v13.toNat, 0]
def k0_dev1 (d0 : Dev nD) : Nat :=
  let c0_i32_30 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_29 : BitVec 32 := 4#32
  let v39 : BitVec 32 := Scalar.muli v9 c4_i32_29
  let v40 : BitVec 32 := Scalar.addi c0_i32_30 v39
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v41 : BitVec 32 := Scalar.muli v5 c2_i32_31
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v43 : BitVec 32 := Scalar.muli v8 c1_i32_32
  let v44 : BitVec 32 := Scalar.addi v42 v43
  v44.toNat
def k0_dev2 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v45 : BitVec 32 := Scalar.muli v2 c4_i32_34
  let v46 : BitVec 32 := Scalar.addi c0_i32_35 v45
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_36 : BitVec 32 := 2#32
  let v47 : BitVec 32 := Scalar.muli v10 c2_i32_36
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v49 : BitVec 32 := Scalar.muli v8 c1_i32_37
  let v50 : BitVec 32 := Scalar.addi v48 v49
  v50.toNat
def k0_dev3 (d0 : Dev nD) : Nat :=
  let c0_i32_58 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_57 : BitVec 32 := 4#32
  let v67 : BitVec 32 := Scalar.muli v9 c4_i32_57
  let v68 : BitVec 32 := Scalar.addi c0_i32_58 v67
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v69 : BitVec 32 := Scalar.muli v5 c2_i32_59
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v71 : BitVec 32 := Scalar.muli v8 c1_i32_60
  let v72 : BitVec 32 := Scalar.addi v70 v71
  v72.toNat
def k0_dev4 (d0 : Dev nD) : Nat :=
  let c0_i32_68 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_67 : BitVec 32 := 4#32
  let v79 : BitVec 32 := Scalar.muli v9 c4_i32_67
  let v80 : BitVec 32 := Scalar.addi c0_i32_68 v79
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_69 : BitVec 32 := 2#32
  let v81 : BitVec 32 := Scalar.muli v5 c2_i32_69
  let v82 : BitVec 32 := Scalar.addi v80 v81
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_70 : BitVec 32 := 1#32
  let v83 : BitVec 32 := Scalar.muli v8 c1_i32_70
  let v84 : BitVec 32 := Scalar.addi v82 v83
  v84.toNat
def k0_dev5 (d0 : Dev nD) : Nat :=
  let c0_i32_78 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_77 : BitVec 32 := 4#32
  let v91 : BitVec 32 := Scalar.muli v9 c4_i32_77
  let v92 : BitVec 32 := Scalar.addi c0_i32_78 v91
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_79 : BitVec 32 := 2#32
  let v93 : BitVec 32 := Scalar.muli v5 c2_i32_79
  let v94 : BitVec 32 := Scalar.addi v92 v93
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_80 : BitVec 32 := 1#32
  let v95 : BitVec 32 := Scalar.muli v8 c1_i32_80
  let v96 : BitVec 32 := Scalar.addi v94 v95
  v96.toNat
def k0_dev6 (d0 : Dev nD) : Nat :=
  let c0_i32_87 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_86 : BitVec 32 := 4#32
  let v103 : BitVec 32 := Scalar.muli v9 c4_i32_86
  let v104 : BitVec 32 := Scalar.addi c0_i32_87 v103
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_88 : BitVec 32 := 2#32
  let v105 : BitVec 32 := Scalar.muli v5 c2_i32_88
  let v106 : BitVec 32 := Scalar.addi v104 v105
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_89 : BitVec 32 := 1#32
  let v107 : BitVec 32 := Scalar.muli v8 c1_i32_89
  let v108 : BitVec 32 := Scalar.addi v106 v107
  v108.toNat
def k0_dev7 (d0 : Dev nD) : Nat :=
  let c0_i32_175 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_174 : BitVec 32 := 4#32
  let v320 : BitVec 32 := Scalar.muli v2 c4_i32_174
  let v321 : BitVec 32 := Scalar.addi c0_i32_175 v320
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_176 : BitVec 32 := 2#32
  let v322 : BitVec 32 := Scalar.muli v10 c2_i32_176
  let v323 : BitVec 32 := Scalar.addi v321 v322
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_177 : BitVec 32 := 1#32
  let v324 : BitVec 32 := Scalar.muli v8 c1_i32_177
  let v325 : BitVec 32 := Scalar.addi v323 v324
  v325.toNat
def k0_dev8 (d0 : Dev nD) : Nat :=
  let c0_i32_201 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_200 : BitVec 32 := 4#32
  let v346 : BitVec 32 := Scalar.muli v2 c4_i32_200
  let v347 : BitVec 32 := Scalar.addi c0_i32_201 v346
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_202 : BitVec 32 := 2#32
  let v348 : BitVec 32 := Scalar.muli v10 c2_i32_202
  let v349 : BitVec 32 := Scalar.addi v347 v348
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_203 : BitVec 32 := 1#32
  let v350 : BitVec 32 := Scalar.muli v8 c1_i32_203
  let v351 : BitVec 32 := Scalar.addi v349 v350
  v351.toNat
def k0_dev9 (d0 : Dev nD) : Nat :=
  let c0_i32_256 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_255 : BitVec 32 := 4#32
  let v479 : BitVec 32 := Scalar.muli v2 c4_i32_255
  let v480 : BitVec 32 := Scalar.addi c0_i32_256 v479
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_257 : BitVec 32 := 2#32
  let v481 : BitVec 32 := Scalar.muli v10 c2_i32_257
  let v482 : BitVec 32 := Scalar.addi v480 v481
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_258 : BitVec 32 := 1#32
  let v483 : BitVec 32 := Scalar.muli v8 c1_i32_258
  let v484 : BitVec 32 := Scalar.addi v482 v483
  v484.toNat
def k0_dev10 (d0 : Dev nD) : Nat :=
  let c0_i32_281 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_280 : BitVec 32 := 4#32
  let v505 : BitVec 32 := Scalar.muli v2 c4_i32_280
  let v506 : BitVec 32 := Scalar.addi c0_i32_281 v505
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_282 : BitVec 32 := 2#32
  let v507 : BitVec 32 := Scalar.muli v10 c2_i32_282
  let v508 : BitVec 32 := Scalar.addi v506 v507
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_283 : BitVec 32 := 1#32
  let v509 : BitVec 32 := Scalar.muli v8 c1_i32_283
  let v510 : BitVec 32 := Scalar.addi v508 v509
  v510.toNat
-- ==== KernelIdeal.lean ====
variable {F : FTy → Type} [FloatOps F] [Named F]
def κ : String → Option EReal := fun
  | "scale" => some (((1 / 8) * (Real.log 2)⁻¹ : ℝ) : EReal)
  | _ => none
-- ==== ReferenceIdeal.lean ====
abbrev S2x1024x8x64 : Shape := ⟨4, ![2, 1024, 8, 64]⟩
abbrev S2x8x1024x1024 : Shape := ⟨4, ![2, 8, 1024, 1024]⟩
abbrev S_ : Shape := ⟨0, ![]⟩
abbrev S2x8x1024 : Shape := ⟨3, ![2, 8, 1024]⟩
abbrev S2x8x1024x1 : Shape := ⟨4, ![2, 8, 1024, 1]⟩
abbrev S2x8x64x1024 : Shape := ⟨4, ![2, 8, 64, 1024]⟩

abbrev nBuf : Space → Nat
  | .hbm => 23
  | .vmem => 0
  | .smem => 0
  | _ => 0

abbrev bufTy : (tb : Table) → Fin (tcTables nBuf tb) → BufTy
  | .hbm, ⟨0, _⟩ => ⟨S2x1024x8x64, .bf16⟩
  | .hbm, ⟨1, _⟩ => ⟨S2x1024x8x64, .bf16⟩
  | .hbm, ⟨2, _⟩ => ⟨S2x1024x8x64, .bf16⟩
  | .hbm, ⟨3, _⟩ => ⟨S2x1024x8x64, .f32⟩
  | .hbm, ⟨4, _⟩ => ⟨S2x1024x8x64, .f32⟩
  | .hbm, ⟨5, _⟩ => ⟨S2x1024x8x64, .f32⟩
  | .hbm, ⟨6, _⟩ => ⟨S2x8x1024x1024, .f32⟩
  | .hbm, ⟨7, _⟩ => ⟨S_, .f32⟩
  | .hbm, ⟨8, _⟩ => ⟨S2x8x1024x1024, .f32⟩
  | .hbm, ⟨9, _⟩ => ⟨S2x8x1024x1024, .f32⟩
  | .hbm, ⟨10, _⟩ => ⟨S_, .f32⟩
  | .hbm, ⟨11, _⟩ => ⟨S2x8x1024, .f32⟩
  | .hbm, ⟨12, _⟩ => ⟨S2x8x1024x1, .f32⟩
  | .hbm, ⟨13, _⟩ => ⟨S2x8x1024x1024, .f32⟩
  | .hbm, ⟨14, _⟩ => ⟨S2x8x1024x1024, .f32⟩
  | .hbm, ⟨15, _⟩ => ⟨S2x8x1024x1024, .f32⟩
  | .hbm, ⟨16, _⟩ => ⟨S_, .f32⟩
  | .hbm, ⟨17, _⟩ => ⟨S2x8x1024, .f32⟩
  | .hbm, ⟨18, _⟩ => ⟨S2x8x1024x1, .f32⟩
  | .hbm, ⟨19, _⟩ => ⟨S2x8x1024x1024, .f32⟩
  | .hbm, ⟨20, _⟩ => ⟨S2x8x1024x1024, .f32⟩
  | .hbm, ⟨21, _⟩ => ⟨S2x8x64x1024, .f32⟩
  | .hbm, ⟨22, _⟩ => ⟨S2x1024x8x64, .f32⟩
  | _, _ => ⟨S2x1024x8x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Protocol.lean ====
/-
# The exchange: cells, contents, schedule

Eight devices `4x + 2y + z`. Device `c` exchanges with two others: `px c` (the other `x`) and `py c` (the other `y`).
Each holds half the keys and values of its batches (the half of its `x`). It sends the half of its own batch `y` to
`px c`, and passes on to `py c` what `px c` sent it; so it ends with both halves of both batches.

Per device there are twenty-five cells: the barrier semaphore, and eight DMA semaphores each for copies on the device,
for sends and for arrivals. Every cell runs one round of the rounds library. A DMA cell has one duty, the barrier cell
two (`false` paid by `px c`, `true` paid by `py c`): each brings the part of the payer's landing buffers that the
device will write into.

Buffer contents are TOTAL functions of the three argument arrays of every device, so that a window of a buffer is a
points-to of that one function on a set of rows, and windows split and join by their row sets alone.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Rounds
public import Idealize.ShloMosaic.Lib.Pipeline.Launch
public import Idealize.ShloMosaic.Lib.Pipeline.Kit
public import Idealize.ShloMosaic.Lib.Tactic

@[expose] public section

noncomputable section

namespace Cert.KernelIdeal.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

abbrev UB : Type := URounds (GSem nD τ sig) Bool
abbrev UU : Type := UR sig nD τ × UB

variable {F : FTy → Type} [FloatOps F] [Named F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The devices -/

set_option backward.proofsInPublic true in
def px (c : Dev nD) : Dev nD := ⟨(c.val + 4) % 8, Nat.mod_lt _ (by decide)⟩
set_option backward.proofsInPublic true in
def py (c : Dev nD) : Dev nD := ⟨4 * (c.val / 4) + (c.val + 2) % 4, by have h : c.val < 8 := c.isLt; show _ < 8; omega⟩
theorem px_px (c : Dev nD) : px (px c) = c := by revert c; decide
theorem py_py (c : Dev nD) : py (py c) = c := by revert c; decide

theorem dev_x (c : Dev nD) : (2 * ((c.val / 2) % 2) + (c.val % 2) + 4) - 4 * (c.val / 4) = (px c).val := by revert c; decide
theorem dev_y (c : Dev nD) : (4 * (c.val / 4) + (c.val % 2) + 2) - 2 * ((c.val / 2) % 2) = (py c).val := by revert c; decide

theorem dev1_eq (c : Dev nD) : (⟨k0_dev1 c, k0_dev1_lt c⟩ : Dev nD) = px c := Fin.ext ((k0_dev1_eq c).trans (dev_x c))
theorem dev2_eq (c : Dev nD) : (⟨k0_dev2 c, k0_dev2_lt c⟩ : Dev nD) = py c := Fin.ext ((k0_dev2_eq c).trans (dev_y c))
theorem dev3_eq (c : Dev nD) : (⟨k0_dev3 c, k0_dev3_lt c⟩ : Dev nD) = px c := Fin.ext ((k0_dev3_eq c).trans (dev_x c))
theorem dev4_eq (c : Dev nD) : (⟨k0_dev4 c, k0_dev4_lt c⟩ : Dev nD) = px c := Fin.ext ((k0_dev4_eq c).trans (dev_x c))
theorem dev5_eq (c : Dev nD) : (⟨k0_dev5 c, k0_dev5_lt c⟩ : Dev nD) = px c := Fin.ext ((k0_dev5_eq c).trans (dev_x c))
theorem dev6_eq (c : Dev nD) : (⟨k0_dev6 c, k0_dev6_lt c⟩ : Dev nD) = px c := Fin.ext ((k0_dev6_eq c).trans (dev_x c))
theorem dev7_eq (c : Dev nD) : (⟨k0_dev7 c, k0_dev7_lt c⟩ : Dev nD) = py c := Fin.ext ((k0_dev7_eq c).trans (dev_y c))
theorem dev8_eq (c : Dev nD) : (⟨k0_dev8 c, k0_dev8_lt c⟩ : Dev nD) = py c := Fin.ext ((k0_dev8_eq c).trans (dev_y c))
theorem dev9_eq (c : Dev nD) : (⟨k0_dev9 c, k0_dev9_lt c⟩ : Dev nD) = py c := Fin.ext ((k0_dev9_eq c).trans (dev_y c))
theorem dev10_eq (c : Dev nD) : (⟨k0_dev10 c, k0_dev10_lt c⟩ : Dev nD) = py c := Fin.ext ((k0_dev10_eq c).trans (dev_y c))

/-- The first row of the device's own batch, and of the other batch, in the argument arrays. -/
def lo (c : Dev nD) : ℕ := 512 * ((c.val / 2) % 2)
def hi (c : Dev nD) : ℕ := 512 - 512 * ((c.val / 2) % 2)

theorem off1_eq (c : Dev nD) : k0_off1 c = ![lo c, 0] := k0_off1_eq c
theorem off2_eq (c : Dev nD) : k0_off2 c = ![hi c, 0] := k0_off2_eq c
theorem lo_hi (c : Dev nD) : (lo c = 0 ∧ hi c = 512) ∨ (lo c = 512 ∧ hi c = 0) := by revert c; decide
theorem lo_px (c : Dev nD) : lo (px c) = lo c := by revert c; decide
theorem lo_py (c : Dev nD) : lo (py c) = hi c := by revert c; decide

/-! ## Contents -/

/-- The contents of a `1024 × 512` array. -/
abbrev Blk (F : FTy → Type) : Type := S1024x512.Idx → Elt F .bf16

set_option backward.proofsInPublic true in
/-- The index with its row moved by `n` (modulo the 1024 rows). -/
def mv (n : ℕ) (i : S1024x512.Idx) : S1024x512.Idx
  | 0 => ⟨((i 0).val + n) % 1024, Nat.mod_lt _ (by decide)⟩
  | 1 => i 1

theorem mv_row (n : ℕ) (i : S1024x512.Idx) : (mv n i 0).val = ((i 0).val + n) % 1024 := rfl
theorem mv_col (n : ℕ) (i : S1024x512.Idx) : (mv n i 1).val = (i 1).val := rfl

theorem idx_ext {i j : S1024x512.Idx} (h0 : (i 0).val = (j 0).val) (h1 : (i 1).val = (j 1).val) : i = j :=
  funext fun a => match a with
    | 0 => Fin.ext h0
    | 1 => Fin.ext h1

/-- An argument array as the device keeps it: the rows of its own batch first. -/
def kept (a : Dev nD → Blk F) (c : Dev nD) : Blk F := fun i => a c (mv (lo c) i)

/-- What arrives of it: the rows of batch `y` from `px c`, those of the other batch, which `py c` passes on, from
    `px (py c)`. -/
def got (a : Dev nD → Blk F) (c : Dev nD) : Blk F := fun i =>
  if (i 0).val < 512 then kept a (px c) i else kept a (px (py c)) (mv 512 i)

/-! ## Row sets and points-tos -/

/-- The rows from `a` up to `b`. -/
def rows (a b : ℕ) : Finset S1024x512.Idx := Finset.univ.filter fun i => a ≤ (i 0).val ∧ (i 0).val < b

theorem mem_rows {a b : ℕ} {i : S1024x512.Idx} : i ∈ rows a b ↔ a ≤ (i 0).val ∧ (i 0).val < b := by
  unfold rows; rw [Finset.mem_filter]; exact and_iff_right (Finset.mem_univ _)

theorem rows_univ : rows 0 1024 = Finset.univ := by
  ext i; rw [mem_rows]; exact iff_of_true ⟨Nat.zero_le _, (i 0).isLt⟩ (Finset.mem_univ _)
theorem rows_disjoint {a b a' b' : ℕ} (h : b ≤ a' ∨ b' ≤ a) : Disjoint (rows a b) (rows a' b') :=
  Finset.disjoint_left.mpr fun i hi hj => by rw [mem_rows] at hi hj; omega
theorem rows_union {a b d : ℕ} (h₁ : a ≤ b) (h₂ : b ≤ d) : rows a b ∪ rows b d = rows a d := by
  ext i; rw [Finset.mem_union, mem_rows, mem_rows, mem_rows]; omega

/-- The set under `n` whole rows of a `1024 × 512` array from row `a`. -/
theorem rect_rows (a n : ℕ) (inb : ∀ x, (![a, 0] : Fin 2 → ℕ) x + (![n, 512] : Fin 2 → ℕ) x ≤ S1024x512.size x) :
    (Rect.unit (s := S1024x512) ![a, 0] ![n, 512] inb).set = rows a (a + n) := by
  ext i
  rw [Rect.mem_set_unit, mem_rows]
  refine ⟨fun h => h 0, fun h => Fin.forall_fin_two.mpr ⟨h, Nat.zero_le _, ?_⟩⟩
  show (i 1).val < 0 + 512
  have := (i 1).isLt
  change (i 1).val < 512 at this
  omega

/-- A points-to on device `c`. -/
abbrev pt (c : Dev nD) (b : Ref sig .tc) (I : Finset (Idx ((c : Thread nD τ).loc b))) (q : PosShare TreeShare)
    (f : Buf (Elt F) ((c : Thread nD τ).loc b)) : sProp 𝕄 := ((c : Thread nD τ).loc b) ↦[I]{q} f

abbrev full : PosShare TreeShare := fullShare
abbrev lft : PosShare TreeShare := fullShare.left
abbrev rgt : PosShare TreeShare := fullShare.right

/-! ## The cells -/

abbrev barS : Sem sig := (SemArray.scalar (sig.barrier 0 rfl) : Sems sig S_).sem
abbrev dsem (s : Fin 24) : DmaSem sig := s

abbrev barCell (c : Dev nD) : GSem nD τ sig := ((c : Thread nD τ), .reg barS)
abbrev dCell (c : Dev nD) (s : Fin 24) : GSem nD τ sig := ((c : Thread nD τ), .dma (dsem s))

/-- The credit of a copy of 512 rows, and of 256 rows. -/
abbrev NL : ℕ := ((Memref.whole cc0_scratch1).slice (Rect.unit (s := S1024x512) ![0, 0] S512x512.size inb_S1024x512_S512x512_0_0) (fun _ => rfl) : Memref sig .tc .vmem S512x512 .bf16).view.dmaCredit
abbrev NS : ℕ := ((Memref.whole cc0_scratch1).slice (Rect.unit (s := S1024x512) ![0, 0] S256x512.size inb_S1024x512_S256x512_0_0) (fun _ => rfl) : Memref sig .tc .vmem S256x512 .bf16).view.dmaCredit

theorem NL_pos : 0 < NL := View.dmaCredit_pos _ (by decide)
theorem NS_pos : 0 < NS := View.dmaCredit_pos _ (by decide)

/-- The amount of every duty of a DMA cell: the first eight cells' copies move 512 rows, the others' 256. -/
def amt (s : Fin 24) : ℕ := if s.val < 8 then NL else NS
theorem amt_pos (s : Fin 24) : 0 < amt s := by unfold amt; split; exacts [NL_pos, NS_pos]

/-! ## The schedule -/

section Schedule

variable (q k v o : Dev nD → Blk F)

/-- What `px c` hands over with its unit on `c`'s barrier: the first halves of its landing buffers, and that its arrival
    cells for them are at round 0. -/
def barPayX (c : Dev nD) : sProp 𝕄 :=
  iprop((∃ f, pt (px c) cc0_scratch3 (rows 0 512) full f) ∗ (∃ f, pt (px c) cc0_scratch4 (rows 0 512) full f)
    ∗ reached ER (dCell (px c) 16) 0 ∗ reached ER (dCell (px c) 17) 0 ∗ reached ER (dCell (px c) 20) 0 ∗ reached ER (dCell (px c) 21) 0)
/-- What `py c` hands over with its unit: the second halves. -/
def barPayY (c : Dev nD) : sProp 𝕄 :=
  iprop((∃ f, pt (py c) cc0_scratch3 (rows 512 1024) full f) ∗ (∃ f, pt (py c) cc0_scratch4 (rows 512 1024) full f)
    ∗ reached ER (dCell (py c) 18) 0 ∗ reached ER (dCell (py c) 19) 0 ∗ reached ER (dCell (py c) 22) 0 ∗ reached ER (dCell (py c) 23) 0)

/-- What a copy on the device brings at its end (cells 0 to 7): the target's rows holding the source's, and the source's
    rows back. -/
def locPay (c : Dev nD) : ℕ → sProp 𝕄
  | 0 => iprop(pt c cc0_scratch1 (rows 0 512) full (kept k c) ∗ pt c main_v2 (rows (lo c) (lo c + 512)) full (k c))
  | 1 => iprop(pt c cc0_scratch1 (rows 512 1024) full (kept k c) ∗ pt c main_v2 (rows (hi c) (hi c + 512)) full (k c))
  | 2 => iprop(pt c cc0_scratch2 (rows 0 512) full (kept v c) ∗ pt c main_v3 (rows (lo c) (lo c + 512)) full (v c))
  | 3 => iprop(pt c cc0_scratch2 (rows 512 1024) full (kept v c) ∗ pt c main_v3 (rows (hi c) (hi c + 512)) full (v c))
  | 4 => iprop(pt c cc0_scratch0 (rows 0 512) full (kept q c) ∗ pt c main_v1 (rows (lo c) (lo c + 512)) full (q c))
  | 5 => iprop(pt c cc0_scratch0 (rows 512 1024) full (kept q c) ∗ pt c main_v1 (rows (hi c) (hi c + 512)) full (q c))
  | 6 => iprop(pt c main_v4 (rows (lo c) (lo c + 512)) full (kept o c) ∗ pt c cc0_scratch5 (rows 0 512) full (o c))
  | 7 => iprop(pt c main_v4 (rows (hi c) (hi c + 512)) full (kept o c) ∗ pt c cc0_scratch5 (rows 512 1024) full (o c))
  | _ => iprop(emp)

/-- What a send brings back at its end (cells 8 to 15): the half share lent of the rows sent. -/
def sndPay (c : Dev nD) : ℕ → sProp 𝕄
  | 0 => pt c cc0_scratch1 (rows 0 256) lft (kept k c)
  | 1 => pt c cc0_scratch1 (rows 256 512) lft (kept k c)
  | 2 => pt c cc0_scratch3 (rows 0 256) lft (got k c)
  | 3 => pt c cc0_scratch3 (rows 256 512) lft (got k c)
  | 4 => pt c cc0_scratch2 (rows 0 256) lft (kept v c)
  | 5 => pt c cc0_scratch2 (rows 256 512) lft (kept v c)
  | 6 => pt c cc0_scratch4 (rows 0 256) lft (got v c)
  | 7 => pt c cc0_scratch4 (rows 256 512) lft (got v c)
  | _ => iprop(emp)

/-- What an arrival brings (cells 16 to 23): the rows landed. -/
def rcvPay (c : Dev nD) : ℕ → sProp 𝕄
  | 0 => pt c cc0_scratch3 (rows 0 256) full (got k c)
  | 1 => pt c cc0_scratch3 (rows 256 512) full (got k c)
  | 2 => pt c cc0_scratch3 (rows 512 768) full (got k c)
  | 3 => pt c cc0_scratch3 (rows 768 1024) full (got k c)
  | 4 => pt c cc0_scratch4 (rows 0 256) full (got v c)
  | 5 => pt c cc0_scratch4 (rows 256 512) full (got v c)
  | 6 => pt c cc0_scratch4 (rows 512 768) full (got v c)
  | 7 => pt c cc0_scratch4 (rows 768 1024) full (got v c)
  | _ => iprop(emp)

def dmaPay (c : Dev nD) (s : ℕ) : sProp 𝕄 :=
  if s < 8 then locPay q k v o c s else if s < 16 then sndPay k v c (s - 8) else rcvPay k v c (s - 16)

def semDuties : SemLoc sig → Finset Bool
  | .reg _ => Finset.univ
  | .dma _ => {false}
def semAmt : SemLoc sig → ℕ
  | .reg _ => 1
  | .dma s => amt s
def semPay (c : Dev nD) (d : Bool) : SemLoc sig → sProp 𝕄
  | .reg _ => if d then barPayY c else barPayX c
  | .dma s => dmaPay q k v o c s.val

theorem semAmt_pos (x : SemLoc sig) : 0 < semAmt x := match x with
  | .reg _ => Nat.one_pos
  | .dma s => amt_pos s

def rd : Rounds.Schedule (GSem nD τ sig) Bool 𝕄 where
  duties g r := if r = 0 ∧ g.1.2 = .tc then semDuties g.2 else ∅
  unitless _ := False
  amount g _ _ := semAmt g.2
  payload g _ d := semPay q k v o g.1.1 d g.2
  amount_pos g _ _ _ := semAmt_pos g.2

instance locPay_storable (c : Dev nD) (n : ℕ) : BI.Storable (upEmb : UEmb _ 𝕄) (locPay q k v o c n) := by
  unfold locPay; split <;> infer_instance
instance sndPay_storable (c : Dev nD) (n : ℕ) : BI.Storable (upEmb : UEmb _ 𝕄) (sndPay k v c n) := by
  unfold sndPay; split <;> infer_instance
instance rcvPay_storable (c : Dev nD) (n : ℕ) : BI.Storable (upEmb : UEmb _ 𝕄) (rcvPay k v c n) := by
  unfold rcvPay; split <;> infer_instance
instance semPay_storable (c : Dev nD) (d : Bool) (x : SemLoc sig) : BI.Storable (upEmb : UEmb _ 𝕄) (semPay q k v o c d x) := by
  unfold semPay
  split
  · unfold barPayX barPayY; split <;> infer_instance
  · unfold dmaPay; (repeat' split) <;> infer_instance
instance rd_payload_storable (g : GSem nD τ sig) (r : ℕ) (d : Bool) : BI.Storable (upEmb : UEmb _ 𝕄) ((rd q k v o).payload g r d) :=
  semPay_storable q k v o g.1.1 d g.2

variable (c : Dev nD)

theorem duties_tc (x : SemLoc sig) : (rd q k v o).duties ((c : Thread nD τ), x) 0 = semDuties x := by
  dsimp only [rd]; rw [if_pos ⟨rfl, rfl⟩]
theorem duties_bar : (rd q k v o).duties (barCell c) 0 = Finset.univ := duties_tc q k v o c _
theorem duties_dma (s : Fin 24) : (rd q k v o).duties (dCell c s) 0 = {false} := duties_tc q k v o c _
theorem duties_later (g : GSem nD τ sig) (r : ℕ) (h : 1 ≤ r) : (rd q k v o).duties g r = ∅ := if_neg fun h' => by omega
theorem mem_bar (d : Bool) : d ∈ (rd q k v o).duties (barCell c) 0 := by rw [duties_bar]; exact Finset.mem_univ _
theorem mem_dma (s : Fin 24) : false ∈ (rd q k v o).duties (dCell c s) 0 := by rw [duties_dma]; exact Finset.mem_singleton_self _

theorem expect_bar : (rd q k v o).expect (barCell c) 0 = 2 := by
  unfold Schedule.expect Schedule.amountOf
  rw [duties_bar]; rfl
theorem expect_dma (s : Fin 24) : (rd q k v o).expect (dCell c s) 0 = amt s := by
  unfold Schedule.expect Schedule.amountOf
  rw [duties_dma, Finset.sum_singleton]; rfl

theorem rest_bar : bigSep ((rd q k v o).duties (barCell c) 0 \ ∅) (fun d => (rd q k v o).payload (barCell c) 0 d)
    = (iprop(barPayX c ∗ barPayY c) : sProp 𝕄) := by
  rw [Finset.sdiff_empty, duties_bar, bigSep_univ_eq_bigSepL [false, true] (by decide) (by decide), bigSepL_cons_cons, bigSepL_singleton]
  rfl
theorem rest_dma (s : Fin 24) : bigSep ((rd q k v o).duties (dCell c s) 0 \ ∅) (fun d => (rd q k v o).payload (dCell c s) 0 d)
    = dmaPay q k v o c s.val := by
  rw [Finset.sdiff_empty, duties_dma, bigSep_singleton]; rfl

end Schedule

/-! ## What a device owes; the levels -/

/-- The units and credits device `c` owes at launch, in the order in which it pays them: a unit on each partner's
    barrier; the four arrivals at `px c`; the four at `py c`. -/
def debts (c : Dev nD) : List (GSem nD τ sig × ℕ) :=
  [(barCell (px c), 1), (barCell (py c), 1),
    (dCell (px c) 16, NS), (dCell (px c) 20, NS), (dCell (px c) 17, NS), (dCell (px c) 21, NS),
    (dCell (py c) 18, NS), (dCell (py c) 22, NS), (dCell (py c) 19, NS), (dCell (py c) 23, NS)]

def owing : List (GSem nD τ sig × ℕ) → CellTallies nD τ sig Unit
  | [] => 0
  | p :: l => owing l + tallyAt p.1 () p.2

/-- What is owed after `n` payments. -/
abbrev owed (c : Dev nD) (n : ℕ) : CellTallies nD τ sig Unit := owing ((debts c).drop n)

theorem owing_pos {l : List (GSem nD τ sig × ℕ)} {g : GSem nD τ sig} {u : Unit} (h : 0 < owing l g u) : ∃ p ∈ l, p.1 = g := by
  induction l with
  | nil => exact absurd h (Nat.lt_irrefl 0)
  | cons p l ih =>
    by_cases hp : p.1 = g
    · exact ⟨p, List.mem_cons_self, hp⟩
    · unfold owing at h
      rw [Pi.add_apply, Finsupp.add_apply, tallyAt_apply, if_neg (fun h' => hp h'.1.symm), Nat.add_zero] at h
      obtain ⟨p', h', e⟩ := ih h
      exact ⟨p', List.mem_cons_of_mem _ h', e⟩

def L (g : GSem nD τ sig) : Finset Unit := if g.1.2 = .tc then {()} else ∅
def semLv : SemLoc sig → ℕ
  | .reg _ => 1
  | .dma s => if s.val < 16 then 0 else if s.val % 4 < 2 then 2 else 3
def lv (g : GSem nD τ sig) (_ : Unit) : ℕ := semLv g.2

theorem L_of_ne (g : GSem nD τ sig) (h : g.1.2 ≠ .tc) : L g = ∅ := if_neg h
theorem L_tc (c : Dev nD) (s : SemLoc sig) : L ((c : Thread nD τ), s) = {()} := if_pos rfl

theorem debts_tc {c : Dev nD} {p : GSem nD τ sig × ℕ} (h : p ∈ debts c) : p.1.1.2 = .tc := by
  unfold debts at h
  simp only [List.mem_cons, List.not_mem_nil, or_false] at h
  rcases h with rfl | rfl | rfl | rfl | rfl | rfl | rfl | rfl | rfl | rfl <;> rfl

/-- The levels of what is owed after `n` payments, in order. -/
theorem debts_lv (c : Dev nD) : (debts c).map (fun p => semLv p.1.2) = [1, 1, 2, 2, 2, 2, 3, 3, 3, 3] := rfl

/-- A device may wait on a cell whose level is below that of everything it still owes. -/
theorem mayWait (c : Dev nD) (x : SemLoc sig) (n : ℕ) (h : ∀ y ∈ ([1, 1, 2, 2, 2, 2, 3, 3, 3, 3] : List ℕ).drop n, semLv x < y) :
    (levAts L lv : sProp 𝕄) ⊢ MayWait (c : Thread nD τ) x () (owed c n) :=
  MayOwe.of_cut (L := L) (lev := lv) (semLv x) (fun p hp => by rw [Finset.mem_singleton.mp hp, L_tc]; exact Finset.mem_singleton_self _)
    (fun g u hg => by
      obtain ⟨p, hp, rfl⟩ := owing_pos hg
      unfold L; rw [if_pos (debts_tc (List.mem_of_mem_drop hp))]; exact Finset.mem_singleton_self _)
    (fun p hp => by rw [Finset.mem_singleton.mp hp]; exact Nat.le_refl _)
    (fun g u hg => by
      obtain ⟨p, hp, rfl⟩ := owing_pos hg
      refine h _ ?_
      rw [← debts_lv c, ← List.map_drop]
      exact List.mem_map_of_mem (f := fun p : GSem nD τ sig × ℕ => semLv p.1.2) hp)

end Cert.KernelIdeal.Att
end
-- ==== Proof.Contents.lean ====
/-
# What the output buffer ends holding

One head of one batch: the scaled queries against 512 keys held and two windows of 256 keys that arrived, each window
giving the sum of the weighted values and, in the column of ones, the sum of the weights; then the quotient.
`headOut` is that, at any row offset (batch) and column offset (head); `outst` puts the sixteen of them side by side.
-/
module

public import proofs.«01_k».proof.Proof.Protocol

@[expose] public section

noncomputable section

namespace Cert.KernelIdeal.Att

open Cert.KernelIdeal Cert.KernelIdeal.Gen
open Idealize.ShloMosaic Idealize.ShloMosaic.TcCoe

variable {F : FTy → Type} [FloatOps F] [Named F]

set_option backward.proofsInPublic true in
/-- The index `(a, b)` of a `1024 × 512` array. -/
def ix (a b : ℕ) (ha : a < 1024) (hb : b < 512) : S1024x512.Idx
  | 0 => ⟨a, ha⟩
  | 1 => ⟨b, hb⟩

/-- The `256` rows from row `a`. -/
def win (a : ℕ) (ha : a + 256 ≤ 1024) (f : Blk F) : Vec F S256x512 .bf16 := fun j =>
  f (ix (a + (j 0).val) (j 1).val (lt_of_lt_of_le (Nat.add_lt_add_left (j 0).isLt a) ha) (j 1).isLt)

theorem slices_q {o : ℕ} (ho : o + 64 ≤ 512) : S512x512.Slices ![0, o] S512x64 :=
  ⟨rfl, Fin.forall_fin_two.mpr ⟨show 0 + 512 ≤ 512 by decide, ho⟩⟩
theorem slices_w {o : ℕ} (ho : o + 64 ≤ 512) : S256x512.Slices ![0, o] S256x64 :=
  ⟨rfl, Fin.forall_fin_two.mpr ⟨show 0 + 256 ≤ 256 by decide, ho⟩⟩
theorem slices_k {R o : ℕ} (hR : R + 512 ≤ 1024) (ho : o + 64 ≤ 512) : S1024x512.Slices ![R, o] S512x64 :=
  ⟨rfl, Fin.forall_fin_two.mpr ⟨hR, ho⟩⟩
theorem slices_b {R : ℕ} (hR : R + 512 ≤ 1024) : S1024x512.Slices ![R, 0] S512x512 :=
  ⟨rfl, Fin.forall_fin_two.mpr ⟨hR, show 0 + 512 ≤ 512 by decide⟩⟩

/-- The scaled queries of one head. -/
def headQ (Q : Blk F) (R o : ℕ) (hR : R + 512 ≤ 1024) (ho : o + 64 ≤ 512) : FVec F S512x64 .bf16 :=
  extractStridedSlice S512x64 ![0, o] (extractStridedSlice S512x512 ![R, 0]
    (mulf Q (broadcast S1024x512 (Named.named κ "scale" 0x3E39#16))) (slices_b hR)) (slices_q ho)

/-- The weighted values, and their weights' sum, over 512 keys. -/
def chunkL (qh kh vh : FVec F S512x64 .bf16) : FVec F S512x128 .f32 :=
  matmul dot_S512x512_S512x128_S512x128_1_0_0_1_n_n none
    (exp2 (truncf .bf16 (matmul dot_S512x64_S512x64_S512x512_1_1_0_0_n_n none qh kh (constant S512x512 .f32 0x00000000#32)) bitsLt_bf16_f32))
    (concatenate S512x128 1 [⟨S512x64, vh⟩, ⟨S512x64, broadcast S512x64 (Scalar.ofBits .bf16 0x3F80#16)⟩] concatenates_S512x64_S512x64_S512x128_d1)
    (constant S512x128 .f32 0x00000000#32)

/-- The same over 256 keys. -/
def chunkS (qh : FVec F S512x64 .bf16) (kh vh : FVec F S256x64 .bf16) : FVec F S512x128 .f32 :=
  matmul dot_S512x256_S256x128_S512x128_1_0_0_1_n_n none
    (exp2 (truncf .bf16 (matmul dot_S512x64_S256x64_S512x256_1_1_0_0_n_n none qh kh (constant S512x256 .f32 0x00000000#32)) bitsLt_bf16_f32))
    (concatenate S256x128 1 [⟨S256x64, vh⟩, ⟨S256x64, broadcast S256x64 (Scalar.ofBits .bf16 0x3F80#16)⟩] concatenates_S256x64_S256x64_S256x128_d1)
    (constant S512x128 .f32 0x00000000#32)

def numer (t : FVec F S512x128 .f32) : FVec F S512x64 .f32 := extractStridedSlice S512x64 ![0, 0] t slices_S512x128_o0_0_S512x64
def denom (t : FVec F S512x128 .f32) : FVec F S512x1 .f32 := extractStridedSlice S512x1 ![0, 64] t slices_S512x128_o0_64_S512x1

def headLoc (Q K V : Blk F) (R o : ℕ) (hR : R + 512 ≤ 1024) (ho : o + 64 ≤ 512) : FVec F S512x128 .f32 :=
  chunkL (headQ Q R o hR ho) (extractStridedSlice S512x64 ![R, o] K (slices_k hR ho)) (extractStridedSlice S512x64 ![R, o] V (slices_k hR ho))

def headRem (Q KR VR : Blk F) (R a o : ℕ) (hR : R + 512 ≤ 1024) (ha : a + 256 ≤ 1024) (ho : o + 64 ≤ 512) : FVec F S512x128 .f32 :=
  chunkS (headQ Q R o hR ho) (extractStridedSlice S256x64 ![0, o] (win a ha KR) (slices_w ho))
    (extractStridedSlice S256x64 ![0, o] (win a ha VR) (slices_w ho))

/-- The quotient of one head, rounded. -/
def quo (o : FVec F S512x64 .f32) (l : FVec F S512x1 .f32) : FVec F S512x64 .bf16 :=
  truncf .bf16 (divf o (broadcastTo S512x64 l broadcasts_S512x1_S512x64)) bitsLt_bf16_f32

/-- One head's output. -/
def headOut (Q K V KR VR : Blk F) (R o : ℕ) (hR : R + 512 ≤ 1024) (ho : o + 64 ≤ 512) : FVec F S512x64 .bf16 :=
  quo (addf (addf (numer (headLoc Q K V R o hR ho)) (numer (headRem Q KR VR R R o hR (by omega) ho)))
      (numer (headRem Q KR VR R (R + 256) o hR (by omega) ho)))
    (addf (addf (denom (headLoc Q K V R o hR ho)) (denom (headRem Q KR VR R R o hR (by omega) ho)))
      (denom (headRem Q KR VR R (R + 256) o hR (by omega) ho)))

set_option backward.proofsInPublic true in
/-- The place of an output element within its head's block. -/
def inHead (i : S1024x512.Idx) : S512x64.Idx
  | 0 => ⟨(i 0).val % 512, Nat.mod_lt _ (by decide)⟩
  | 1 => ⟨(i 1).val % 64, Nat.mod_lt _ (by decide)⟩

theorem row_le (i : S1024x512.Idx) : 512 * ((i 0).val / 512) + 512 ≤ 1024 := by
  have h : (i 0).val < 1024 := (i 0).isLt
  omega
theorem col_le (i : S1024x512.Idx) : 64 * ((i 1).val / 64) + 64 ≤ 512 := by
  have h : (i 1).val < 512 := (i 1).isLt
  omega

/-- The sixteen outputs side by side. -/
def outOf (Q K V KR VR : Blk F) : Blk F := fun i =>
  headOut Q K V KR VR (512 * ((i 0).val / 512)) (64 * ((i 1).val / 64)) (row_le i) (col_le i) (inHead i)

/-- What the device's output buffer ends holding. -/
def outst (q k v : Dev nD → Blk F) (c : Dev nD) : Blk F := outOf (kept q c) (kept k c) (kept v c) (got k c) (got v c)

theorem headOut_congr (Q K V KR VR : Blk F) {R R' o o' : ℕ} (hR : R + 512 ≤ 1024) (ho : o + 64 ≤ 512)
    (hR' : R' + 512 ≤ 1024) (ho' : o' + 64 ≤ 512) (e : R = R') (e' : o = o') {j j' : S512x64.Idx} (ej : j = j') :
    headOut Q K V KR VR R o hR ho j = headOut Q K V KR VR R' o' hR' ho' j' := by subst e e' ej; rfl

/-- The output within one head's block. -/
theorem outOf_at (Q K V KR VR : Blk F) {R o : ℕ} (hR : R + 512 ≤ 1024) (ho : o + 64 ≤ 512) (h0 : 512 * (R / 512) = R)
    (h1 : 64 * (o / 64) = o) (i : S1024x512.Idx) (j : S512x64.Idx) (e0 : (i 0).val = R + (j 0).val) (e1 : (i 1).val = o + (j 1).val) :
    outOf Q K V KR VR i = headOut Q K V KR VR R o hR ho j := by
  have hj0 : (j 0).val < 512 := (j 0).isLt
  have hj1 : (j 1).val < 64 := (j 1).isLt
  refine headOut_congr Q K V KR VR _ _ _ _ (by omega) (by omega) (funext (Fin.forall_fin_two.mpr ⟨Fin.ext ?_, Fin.ext ?_⟩))
  · show (i 0).val % 512 = (j 0).val
    omega
  · show (i 1).val % 64 = (j 1).val
    omega

end Cert.KernelIdeal.Att
end
-- ==== Proof.Steps.lean ====
/-
# One rule per effect of the kernel

What a device holds of a cell before, during and after its one round, and a rule each for: a copy on the device, a send
to a partner, a wait on a DMA cell, the two signals and the wait on the barrier. Each is stated over the program that
follows, for any window whose row set is known.
-/
module

public import proofs.«01_k».proof.Proof.Contents

@[expose] public section

noncomputable section

namespace Cert.KernelIdeal.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

/-! ## All the cells -/

def barEmb : Dev nD ↪ GSem nD τ sig := ⟨barCell, fun _ _ h => congrArg (fun g : GSem nD τ sig => g.1.1) h⟩
def dmaEmb : Dev nD × Fin 24 ↪ GSem nD τ sig := ⟨fun p => dCell p.1 p.2, fun p p' h => by
  have h1 : p.1 = p'.1 := congrArg (fun g : GSem nD τ sig => g.1.1) h
  have h2 : (SemLoc.dma (dsem p.2) : SemLoc sig) = .dma (dsem p'.2) := congrArg (fun g : GSem nD τ sig => g.2) h
  exact Prod.ext h1 (SemLoc.dma.inj h2)⟩
abbrev barCells : Finset (GSem nD τ sig) := Finset.univ.map barEmb
abbrev dmaCells : Finset (GSem nD τ sig) := Finset.univ.map dmaEmb

theorem mem_barCells (c : Dev nD) : barCell c ∈ (barCells ∪ dmaCells : Finset (GSem nD τ sig)) :=
  Finset.mem_union_left _ (Finset.mem_map_of_mem barEmb (Finset.mem_univ c))
theorem mem_dmaCells (c : Dev nD) (s : Fin 24) : dCell c s ∈ (barCells ∪ dmaCells : Finset (GSem nD τ sig)) :=
  Finset.mem_union_right _ (Finset.mem_map_of_mem dmaEmb (Finset.mem_univ (c, s)))

variable (q k v o : Dev nD → Blk F) (K : GSem nD τ sig → ℕ)

/-- Every cell's invariant, and the levels. -/
def ctx : sProp 𝕄 :=
  iprop((bigSep (barCells ∪ dmaCells) fun g => cellInv ER (rd q k v o) (K g) g) ∗ levAts L lv)

instance ctx_persistent : BI.Persistent (ctx q k v o K) := by unfold ctx; infer_instance

theorem inv_at {g : GSem nD τ sig} (hg : g ∈ (barCells ∪ dmaCells : Finset (GSem nD τ sig))) :
    (bigSep (barCells ∪ dmaCells) fun g => (cellInv ER (rd q k v o) (K g) g : sProp 𝕄)) ⊢ cellInv ER (rd q k v o) (K g) g :=
  bigSep_elim hg
theorem ctx_bar (c : Dev nD) : ctx q k v o K ⊢ cellInv ER (rd q k v o) (K (barCell c)) (barCell c) := by
  unfold ctx; iintro ⟨H, -⟩; iapply (inv_at q k v o K (mem_barCells c)); iexact H
theorem ctx_dma (c : Dev nD) (s : Fin 24) : ctx q k v o K ⊢ cellInv ER (rd q k v o) (K (dCell c s)) (dCell c s) := by
  unfold ctx; iintro ⟨H, -⟩; iapply (inv_at q k v o K (mem_dmaCells c s)); iexact H
theorem ctx_lev : ctx q k v o K ⊢ levAts L lv := by
  unfold ctx; iintro ⟨-, H⟩; iexact H

/-! ## A cell's stages -/

variable (c : Dev nD)

/-- Before its copy is issued: its position, the right to pay it, that round 0 is reached. -/
def rdy (s : Fin 24) : sProp 𝕄 := iprop(atPos ER (dCell c s) 0 ∅ 0 ∗ dutyTok ER (dCell c s) 0 false ∗ reached ER (dCell c s) 0)
/-- Its copy under way: its position, and the credit its wait spends. -/
def fly (s : Fin 24) : sProp 𝕄 := iprop(atPos ER (dCell c s) 0 ∅ 0 ∗ cred (tallyAt (dCell c s) () (amt s)))
/-- Its wait done. -/
def dne (s : Fin 24) : sProp 𝕄 := atPos ER (dCell c s) 1 ∅ 0
/-- What the device owes after `n` payments. -/
def ow (n : ℕ) : sProp 𝕄 := iprop(∃ W, owes (c : Thread nD τ) (owed c n) W)
/-- The right to pay an arrival cell of a partner. -/
def ship (c' : Dev nD) (s : Fin 24) : sProp 𝕄 := iprop(dutyTok ER (dCell c' s) 0 false ∗ reached ER (dCell c' s) 0)

/-! ## Writing a window -/

/-- A window written over with what another total content reads as there is that content there. -/
theorem write_eq {κ : Kind} {sp : Space} {s : Shape} {e : EltTy} (w : View sig κ sp s e) (fd g : w.ref.ty.Contents (Elt F))
    (x : s.Idx → Elt F e) (h : w.read (Elt F) g = x) : ∀ i ∈ w.set, w.write (Elt F) fd x Finset.univ i = g i := by
  intro i hi
  obtain ⟨j, -, rfl⟩ := Finset.mem_map.mp hi
  subst h
  rw [View.write_emb_of_mem _ _ (Finset.mem_univ j), View.read_apply, cast_cast, cast_eq]

/-- A copy on the device. -/
theorem wp_local (s : Fin 24) {sp sp' : Space} {sh : Shape} {e : EltTy} {src : Memref sig .tc sp sh e} {dst : Memref sig .tc sp' sh e}
    {hsrc : src.view.WordExact} {hdst : dst.view.WordExact} {hsem : DmaTarget.Typed (nD := nD) (τ := τ) (p := .tc) sp (.dma (dsem s)) (.here dst)}
    {α : Type} {Q : α → sProp 𝕄} {kk : PUnit → Prog (TpuEff nD τ sig (Elt F) Λ₀ .tc) α}
    {I : Finset (Idx (src.view.loc (c : Thread nD τ)))} {J : Finset (Idx (dst.view.loc (c : Thread nD τ)))}
    {fs : Buf (Elt F) (src.view.loc (c : Thread nD τ))} {fd : Buf (Elt F) (dst.view.loc (c : Thread nD τ))}
    (g : Buf (Elt F) (dst.view.loc (c : Thread nD τ)))
    (hI : src.view.set = I) (hJ : dst.view.set = J) (hN : dst.view.amount (.dma (dsem s)) = amt s)
    (hg : dst.view.read (Elt F) g = src.view.read (Elt F) fs)
    (hp : dmaPay q k v o c s.val = iprop((dst.view.loc (c : Thread nD τ) ↦[J]{full} g) ∗ (src.view.loc (c : Thread nD τ) ↦[I]{full} fs))) :
    ctx q k v o K
      ⊢ iprop(rdy c s -∗ (src.view.loc (c : Thread nD τ) ↦[I]{full} fs) -∗ (dst.view.loc (c : Thread nD τ) ↦[J]{full} fd) -∗ (fly c s -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma src (.here dst) (.dma (dsem s)) hsrc hdst hsem) kk) Q) := by
  subst hI hJ
  unfold rdy fly
  iintro #HC ⟨Hat, Ht, #Hr⟩ Hs Hd Hk
  iapply (Rounds.wp_copy_pointsTo 𝒱₀ ER (rd q k v o) (c : Thread nD τ) none (κ := K (dCell c s)) (q := full) (fs := fs) (fd := fd) (r := 0) (d := false)
    (mem_dma q k v o c s) () (amt s) hN rfl (by
      show _ ⊢ dmaPay q k v o c s.val
      rw [hp, pointsTo_congr (write_eq dst.view fd g _ hg)])) $$ [Ht Hs Hd]
  · isplitr; · iapply (ctx_dma q k v o K c s); iexact HC
    isplitl [Hs]; · iexact Hs
    isplitl [Hd]; · iexact Hd
    isplitl [Ht]; · iexact Ht
    iexact Hr
  iintro Hc
  iapply Hk
  isplitl [Hat] <;> iassumption

/-- A send to a partner `c'` (the program's `n`): it pays the partner's arrival cell `s'`, the `m`-th of its debts. -/
theorem wp_ship (s s' : Fin 24) (n c' : Dev nD) (hn : n = c') (m : ℕ) {sp sp' : Space} {sh : Shape} {e : EltTy} {src : Memref sig .tc sp sh e}
    {dst : Memref sig (Dev.tc n : Thread nD τ).2.kind sp' sh e} {hsc : dst.view.ref.isScScratch = false}
    {hsrc : src.view.WordExact} {hdst : dst.view.WordExact}
    {hsem : DmaTarget.Typed (p := (.tc : Proc τ)) sp (.dma (dsem s')) (.remote (Dev.tc n : Thread nD τ) dst (.dma (dsem s)) hsc)}
    {α : Type} {Q : α → sProp 𝕄} {kk : PUnit → Prog (TpuEff nD τ sig (Elt F) Λ₀ .tc) α}
    {I : Finset (Idx (src.view.loc (c : Thread nD τ)))} {J : Finset (Idx (dst.view.loc (c' : Thread nD τ)))}
    {fs : Buf (Elt F) (src.view.loc (c : Thread nD τ))} {fd : Buf (Elt F) (dst.view.loc (c' : Thread nD τ))}
    (g : Buf (Elt F) (dst.view.loc (c' : Thread nD τ)))
    (hI : src.view.set = I) (hJ : dst.view.set = J) (hN : dst.view.amount (.dma (dsem s')) = NS)
    (h₁ : amt s = NS) (h₂ : amt s' = NS)
    (hO : owed c m = owed c (m + 1) + tallyAt (dCell c' s') () NS)
    (hg : dst.view.read (Elt F) g = src.view.read (Elt F) fs)
    (hp₁ : dmaPay q k v o c s.val = (src.view.loc (c : Thread nD τ) ↦[I]{lft} fs))
    (hp₂ : dmaPay q k v o c' s'.val = (dst.view.loc (c' : Thread nD τ) ↦[J]{full} g)) :
    ctx q k v o K
      ⊢ iprop(rdy c s -∗ ship c' s' -∗ ow c m -∗ (src.view.loc (c : Thread nD τ) ↦[I]{lft} fs) -∗ (dst.view.loc (c' : Thread nD τ) ↦[J]{full} fd) -∗ ((fly c s ∗ ow c (m + 1)) -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma src (.remote (Dev.tc n : Thread nD τ) dst (.dma (dsem s)) hsc) (.dma (dsem s')) hsrc hdst hsem) kk) Q) := by
  subst hn hI hJ
  unfold rdy fly ship ow
  iintro #HC ⟨Hat, Ht, #Hr⟩ ⟨Ht', #Hr'⟩ ⟨%W, HO⟩ Hs Hd Hk
  iapply (Rounds.wp_send_pointsTo 𝒱₀ ER (rd q k v o) (c : Thread nD τ) none (κ₁ := K (dCell c s)) (κ₂ := K (dCell n s'))
    (r₁ := 0) (r₂ := 0) (d₁ := false) (d₂ := false) (fd := fd) (mem_dma q k v o c s) (mem_dma q k v o n s')
    () () NS hN h₁ h₂ (owed c (m + 1)) hO (W := W)
    (by
      show _ ⊢ dmaPay q k v o c s.val
      rw [hp₁])
    (by
      show _ ⊢ dmaPay q k v o n s'.val
      rw [hp₂, pointsTo_congr (write_eq dst.view fd g _ hg)])) $$ [Ht Ht' HO Hs Hd]
  · isplitr; · iapply (ctx_dma q k v o K c s); iexact HC
    isplitr; · iapply (ctx_dma q k v o K n s'); iexact HC
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitr [HO]
  · isplitl [Hat]; · iexact Hat
    rw [h₁]; iexact Hc
  · iexists W; iexact HO

/-- A wait on a DMA cell. -/
theorem wp_arrive (s : Fin 24) (n : ℕ) {sp sp' : Space} {sh : Shape} {e : EltTy} {src : Memref sig .tc sp sh e} {dst : Memref sig .tc sp' sh e}
    {hsrc : src.view.WordExact} {hdst : dst.view.WordExact}
    {α : Type} {Q : α → sProp 𝕄} {kk : PUnit → Prog (TpuEff nD τ sig (Elt F) Λ₀ .tc) α} {P : sProp 𝕄} (hN : dst.view.dmaCredit = amt s)
    (hl : ∀ y ∈ ([1, 1, 2, 2, 2, 2, 3, 3, 3, 3] : List ℕ).drop n, semLv (.dma (dsem s)) < y)
    (hp : dmaPay q k v o c s.val = P) :
    ctx q k v o K
      ⊢ iprop(fly c s -∗ ow c n -∗ ((ow c n ∗ dne c s ∗ P) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 (dsem s) src dst hsrc hdst) kk) Q) := by
  subst hp
  unfold fly dne ow
  iintro #HC ⟨Hat, Hc⟩ ⟨%W, HO⟩ Hk
  iapply (Rounds.wp_wait_rest_token 𝒱₀ ER (rd q k v o) (c : Thread nD τ) none (κ := K (dCell c s))
      (wpE_waitDma2_eq 𝒱₀ (c : Thread nD τ) none Set.univ) (Set.mem_univ _) () (O := owed c n) (W := W) (R := 0) (m := 0) (T := ∅)
      (by rw [Nat.zero_add, hN]; exact (expect_dma q k v o c s).symm)) $$ [Hc HO Hat]
  · isplitr; · iapply (ctx_dma q k v o K c s); iexact HC
    isplitl [Hc]; · rw [hN]; iexact Hc
    isplitl [HO]; · iexact HO
    isplitr; · iapply (mayWait c (.dma (dsem s)) n hl); iapply (ctx_lev q k v o K); iexact HC
    iexact Hat
  iintro ⟨HO, Hat, -, Hpay⟩
  iapply Hk
  isplitl [HO]; · iexists _; iexact HO
  isplitl [Hat]; · iexact Hat
  iapply (Entails.of_eq (rest_dma q k v o c s)); iexact Hpay

/-- The landing buffers' halves, with the arrival cells at round 0: what a device hands to each partner. -/
def landX : sProp 𝕄 :=
  iprop((∃ f, pt c cc0_scratch3 (rows 0 512) full f) ∗ (∃ f, pt c cc0_scratch4 (rows 0 512) full f)
    ∗ reached ER (dCell c 16) 0 ∗ reached ER (dCell c 17) 0 ∗ reached ER (dCell c 20) 0 ∗ reached ER (dCell c 21) 0)
def landY : sProp 𝕄 :=
  iprop((∃ f, pt c cc0_scratch3 (rows 512 1024) full f) ∗ (∃ f, pt c cc0_scratch4 (rows 512 1024) full f)
    ∗ reached ER (dCell c 18) 0 ∗ reached ER (dCell c 19) 0 ∗ reached ER (dCell c 22) 0 ∗ reached ER (dCell c 23) 0)
theorem pay_x : semPay q k v o (px c) false (.reg barS) = landX c := by
  show landX (px (px c)) = landX c
  rw [px_px]
theorem pay_y : semPay q k v o (py c) true (.reg barS) = landY c := by
  show landY (py (py c)) = landY c
  rw [py_py]

/-- A signal on a partner's barrier: it pays duty `d` there, the `m`-th of the debts. -/
theorem wp_hail (n c' : Dev nD) (hn : n = c') (m : ℕ) (d : Bool) {α : Type} {Q : α → sProp 𝕄} {kk : PUnit → Prog (TpuEff nD τ sig (Elt F) Λ₀ .tc) α}
    (hO : owed c m = owed c (m + 1) + tallyAt (barCell c') () 1) {P : sProp 𝕄} (hP : semPay q k v o c' d (.reg barS) = P) {a : ℕ} (ha : a = 1) :
    ctx q k v o K
      ⊢ iprop(dutyTok ER (barCell c') 0 d -∗ reached ER (barCell c') 0 -∗ ow c m -∗ P -∗ (ow c (m + 1) -∗ wp frame (wpE (defs₀ (F := F)) 𝒱₀ (c : Thread nD τ) none) Set.univ (kk ⟨⟩) Q)
        -∗ wp frame (wpE (defs₀ (F := F)) 𝒱₀ (c : Thread nD τ) none) Set.univ (.op (.semSignal (Dev.tc n : Thread nD τ) barS a) kk) Q) := by
  subst hn hP ha
  unfold ow
  iintro #HC Ht #Hr ⟨%W, HO⟩ HP Hk
  iapply (Rounds.wp_signal 𝒱₀ ER (rd q k v o) (c : Thread nD τ) none (dst := (n : Thread nD τ)) (κ := K (barCell n))
      (d := d) (mem_bar q k v o n d) rfl () (owed c (m + 1)) hO (W := W)) $$ [HO Ht HP]
  · isplitr; · iapply (ctx_bar q k v o K n); iexact HC
    isplitl [HO]; · iexact HO
    isplitl [Ht]; · iexact Ht
    isplitl [HP]; · iapply (Entails.of_eq (show semPay q k v o n d (.reg barS) = (rd q k v o).payload (barCell n) 0 d from rfl)); iexact HP
    iexact Hr
  iintro HO
  iapply Hk
  iexists W; iexact HO

/-- The wait for both partners. -/
theorem wp_meet (n : ℕ) (hl : ∀ y ∈ ([1, 1, 2, 2, 2, 2, 3, 3, 3, 3] : List ℕ).drop n, 1 < y)
    {α : Type} {Q : α → sProp 𝕄} {kk : PUnit → Prog (TpuEff nD τ sig (Elt F) Λ₀ .tc) α} {a : ℕ} (ha : a = 2) :
    ctx q k v o K
      ⊢ iprop(atPos ER (barCell c) 0 ∅ 0 -∗ cred (tallyAt (barCell c) () 2) -∗ ow c n -∗ ((ow c n ∗ atPos ER (barCell c) 1 ∅ 0 ∗ landX (px c) ∗ landY (py c)) -∗ wp frame (wpE (defs₀ (F := F)) 𝒱₀ (c : Thread nD τ) none) Set.univ (kk ⟨⟩) Q)
        -∗ wp frame (wpE (defs₀ (F := F)) 𝒱₀ (c : Thread nD τ) none) Set.univ (.op (.semWait barS a) kk) Q) := by
  subst ha
  unfold ow
  iintro #HC Hat Hc ⟨%W, HO⟩ Hk
  iapply (Rounds.wp_wait_rest_token 𝒱₀ ER (rd q k v o) (c : Thread nD τ) none (κ := K (barCell c))
      (wpE_semWait_eq 𝒱₀ (c : Thread nD τ) none Set.univ) (Set.mem_univ _) () (O := owed c n) (W := W) (R := 0) (m := 0) (T := ∅)
      (by rw [Nat.zero_add]; exact (expect_bar q k v o c).symm)) $$ [Hc HO Hat]
  · isplitr; · iapply (ctx_bar q k v o K c); iexact HC
    isplitl [Hc]; · iexact Hc
    isplitl [HO]; · iexact HO
    isplitr; · iapply (mayWait c (.reg barS) n hl); iapply (ctx_lev q k v o K); iexact HC
    iexact Hat
  iintro ⟨HO, Hat, -, Hpay⟩
  iapply Hk
  isplitl [HO]; · iexists _; iexact HO
  isplitl [Hat]; · iexact Hat
  iapply (Entails.of_eq (show _ = iprop(landX (px c) ∗ landY (py c)) from rest_bar q k v o c)); iexact Hpay

/-- A load of what is held on a set of elements that includes those loaded. -/
theorem wp_fetch {cs : CoreSpace} {sh : Shape} {e : EltTy} {m : Memref sig .tc cs sh e} {r : Rect sh} {hl : m.view.LoadsAt r}
    {α : Type} {Q : α → sProp 𝕄} {kk : (r.shape.Idx → Elt F e) → Prog (TpuEff nD τ sig (Elt F) Λ₀ .tc) α}
    {S : Finset (Idx ((m.access r).loc (c : Thread nD τ)))} {q : PosShare TreeShare} {f : Buf (Elt F) ((m.access r).loc (c : Thread nD τ))}
    {w : r.shape.Idx → Elt F e} (hS : (m.access r).set ⊆ S) (hw : (m.access r).read (Elt F) f = w) :
    ((m.access r).loc (c : Thread nD τ) ↦[S]{q} f : sProp 𝕄)
      ⊢ iprop((((m.access r).loc (c : Thread nD τ) ↦[S]{q} f) -∗ wp frame (wpE (defs₀ (F := F)) 𝒱₀ (c : Thread nD τ) none) Set.univ (kk w) Q)
        -∗ wp frame (wpE (defs₀ (F := F)) 𝒱₀ (c : Thread nD τ) none) Set.univ (.op (.load m r hl) kk) Q) := by
  subst hw; exact wp_load_rect 𝒱₀ (c : Thread nD τ) none Set.univ hS

/-! ## What each cell brings, by number -/

theorem pay_0 : dmaPay q k v o c ((0 : Fin 24)).val = (iprop(pt c cc0_scratch1 (rows 0 512) full (kept k c) ∗ pt c main_v2 (rows (lo c) (lo c + 512)) full (k c)) : sProp 𝕄) := rfl
theorem pay_1 : dmaPay q k v o c ((1 : Fin 24)).val = (iprop(pt c cc0_scratch1 (rows 512 1024) full (kept k c) ∗ pt c main_v2 (rows (hi c) (hi c + 512)) full (k c)) : sProp 𝕄) := rfl
theorem pay_2 : dmaPay q k v o c ((2 : Fin 24)).val = (iprop(pt c cc0_scratch2 (rows 0 512) full (kept v c) ∗ pt c main_v3 (rows (lo c) (lo c + 512)) full (v c)) : sProp 𝕄) := rfl
theorem pay_3 : dmaPay q k v o c ((3 : Fin 24)).val = (iprop(pt c cc0_scratch2 (rows 512 1024) full (kept v c) ∗ pt c main_v3 (rows (hi c) (hi c + 512)) full (v c)) : sProp 𝕄) := rfl
theorem pay_4 : dmaPay q k v o c ((4 : Fin 24)).val = (iprop(pt c cc0_scratch0 (rows 0 512) full (kept q c) ∗ pt c main_v1 (rows (lo c) (lo c + 512)) full (q c)) : sProp 𝕄) := rfl
theorem pay_5 : dmaPay q k v o c ((5 : Fin 24)).val = (iprop(pt c cc0_scratch0 (rows 512 1024) full (kept q c) ∗ pt c main_v1 (rows (hi c) (hi c + 512)) full (q c)) : sProp 𝕄) := rfl
theorem pay_6 : dmaPay q k v o c ((6 : Fin 24)).val = (iprop(pt c main_v4 (rows (lo c) (lo c + 512)) full (kept o c) ∗ pt c cc0_scratch5 (rows 0 512) full (o c)) : sProp 𝕄) := rfl
theorem pay_7 : dmaPay q k v o c ((7 : Fin 24)).val = (iprop(pt c main_v4 (rows (hi c) (hi c + 512)) full (kept o c) ∗ pt c cc0_scratch5 (rows 512 1024) full (o c)) : sProp 𝕄) := rfl
theorem pay_8 : dmaPay q k v o c ((8 : Fin 24)).val = (pt c cc0_scratch1 (rows 0 256) lft (kept k c) : sProp 𝕄) := rfl
theorem pay_9 : dmaPay q k v o c ((9 : Fin 24)).val = (pt c cc0_scratch1 (rows 256 512) lft (kept k c) : sProp 𝕄) := rfl
theorem pay_10 : dmaPay q k v o c ((10 : Fin 24)).val = (pt c cc0_scratch3 (rows 0 256) lft (got k c) : sProp 𝕄) := rfl
theorem pay_11 : dmaPay q k v o c ((11 : Fin 24)).val = (pt c cc0_scratch3 (rows 256 512) lft (got k c) : sProp 𝕄) := rfl
theorem pay_12 : dmaPay q k v o c ((12 : Fin 24)).val = (pt c cc0_scratch2 (rows 0 256) lft (kept v c) : sProp 𝕄) := rfl
theorem pay_13 : dmaPay q k v o c ((13 : Fin 24)).val = (pt c cc0_scratch2 (rows 256 512) lft (kept v c) : sProp 𝕄) := rfl
theorem pay_14 : dmaPay q k v o c ((14 : Fin 24)).val = (pt c cc0_scratch4 (rows 0 256) lft (got v c) : sProp 𝕄) := rfl
theorem pay_15 : dmaPay q k v o c ((15 : Fin 24)).val = (pt c cc0_scratch4 (rows 256 512) lft (got v c) : sProp 𝕄) := rfl
theorem pay_16 : dmaPay q k v o c ((16 : Fin 24)).val = (pt c cc0_scratch3 (rows 0 256) full (got k c) : sProp 𝕄) := rfl
theorem pay_17 : dmaPay q k v o c ((17 : Fin 24)).val = (pt c cc0_scratch3 (rows 256 512) full (got k c) : sProp 𝕄) := rfl
theorem pay_18 : dmaPay q k v o c ((18 : Fin 24)).val = (pt c cc0_scratch3 (rows 512 768) full (got k c) : sProp 𝕄) := rfl
theorem pay_19 : dmaPay q k v o c ((19 : Fin 24)).val = (pt c cc0_scratch3 (rows 768 1024) full (got k c) : sProp 𝕄) := rfl
theorem pay_20 : dmaPay q k v o c ((20 : Fin 24)).val = (pt c cc0_scratch4 (rows 0 256) full (got v c) : sProp 𝕄) := rfl
theorem pay_21 : dmaPay q k v o c ((21 : Fin 24)).val = (pt c cc0_scratch4 (rows 256 512) full (got v c) : sProp 𝕄) := rfl
theorem pay_22 : dmaPay q k v o c ((22 : Fin 24)).val = (pt c cc0_scratch4 (rows 512 768) full (got v c) : sProp 𝕄) := rfl
theorem pay_23 : dmaPay q k v o c ((23 : Fin 24)).val = (pt c cc0_scratch4 (rows 768 1024) full (got v c) : sProp 𝕄) := rfl

end Cert.KernelIdeal.Att
end
-- ==== Proof.Windows.lean ====
/-
# The windows

The row sets of the windows the kernel's copies, loads and stores go through, and what each reads.
-/
module

public import proofs.«01_k».proof.Proof.Steps

@[expose] public section

noncomputable section

namespace Cert.KernelIdeal.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-- A function of the kernel's buffers and semaphores, at the region's own. -/
abbrev onBufs {β : Type 1} (f : ∀ (arg0 : Memref sig .tc .hbm S1024x512 .bf16) (_ : arg0.IsWhole) (arg1 : Memref sig .tc .hbm S1024x512 .bf16) (_ : arg1.IsWhole)
    (arg2 : Memref sig .tc .hbm S1024x512 .bf16) (_ : arg2.IsWhole) (arg3 : Memref sig .tc .hbm S1024x512 .bf16) (_ : arg3.IsWhole)
    (arg4 : Memref sig .tc .vmem S1024x512 .bf16) (_ : arg4.IsWhole) (arg5 : Memref sig .tc .vmem S1024x512 .bf16) (_ : arg5.IsWhole)
    (arg6 : Memref sig .tc .vmem S1024x512 .bf16) (_ : arg6.IsWhole) (arg7 : Memref sig .tc .vmem S1024x512 .bf16) (_ : arg7.IsWhole)
    (arg8 : Memref sig .tc .vmem S1024x512 .bf16) (_ : arg8.IsWhole) (arg9 : Memref sig .tc .vmem S1024x512 .bf16) (_ : arg9.IsWhole)
    (_ _ _ : DmaSems sig S8), β) : β :=
  f (Memref.whole main_v1) (Memref.isWhole_whole _) (Memref.whole main_v2) (Memref.isWhole_whole _) (Memref.whole main_v3) (Memref.isWhole_whole _)
    (Memref.whole main_v4) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) cc0_scratch6 cc0_scratch7 cc0_scratch8

/-- The weakest precondition of a program of device `c`'s core. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Row sets -/

theorem unit_rows {off : Fin 2 → ℕ} (a n : ℕ) (h : off = ![a, 0]) (inb : ∀ x, off x + (![n, 512] : Fin 2 → ℕ) x ≤ S1024x512.size x) :
    (Rect.unit (s := S1024x512) off ![n, 512] inb).set = rows a (a + n) := by subst h; exact rect_rows a n inb

variable (c : Dev nD)

theorem lo_rows : (Rect.unit (s := S1024x512) (k0_off1 c) S512x512.size (k0_off1_inb c)).set = rows (lo c) (lo c + 512) :=
  unit_rows (lo c) 512 (off1_eq c) (k0_off1_inb c)
theorem hi_rows : (Rect.unit (s := S1024x512) (k0_off2 c) S512x512.size (k0_off2_inb c)).set = rows (hi c) (hi c + 512) :=
  unit_rows (hi c) 512 (off2_eq c) (k0_off2_inb c)

theorem args_disjoint : Disjoint (rows (lo c) (lo c + 512)) (rows (hi c) (hi c + 512)) := by
  rcases lo_hi c with ⟨h, h'⟩ | ⟨h, h'⟩ <;> rw [h, h']
  · exact rows_disjoint (.inl (by decide))
  · exact rows_disjoint (.inr (by decide))
theorem args_union : rows (lo c) (lo c + 512) ∪ rows (hi c) (hi c + 512) = Finset.univ := by
  rcases lo_hi c with ⟨h, h'⟩ | ⟨h, h'⟩ <;> rw [h, h']
  · exact (rows_union (by decide) (by decide)).trans rows_univ
  · rw [Finset.union_comm]; exact (rows_union (by decide) (by decide)).trans rows_univ

/-! ## Points-tos split and joined -/

theorem part {ℓ : Loc nD τ sig} {I J S : Finset (Idx ℓ)} {q : PosShare TreeShare} {f : Buf (Elt F) ℓ} (hu : I ∪ J = S) (hd : Disjoint I J) :
    (ℓ ↦[S]{q} f : sProp 𝕄) ⊢ iprop((ℓ ↦[I]{q} f) ∗ (ℓ ↦[J]{q} f)) := by
  subst hu; exact (pointsTo_union hd).1
theorem fuse {ℓ : Loc nD τ sig} {I J S : Finset (Idx ℓ)} {q : PosShare TreeShare} {f : Buf (Elt F) ℓ} (hu : I ∪ J = S) (hd : Disjoint I J) :
    iprop((ℓ ↦[I]{q} f) ∗ (ℓ ↦[J]{q} f)) ⊢ (ℓ ↦[S]{q} f : sProp 𝕄) := by
  subst hu; exact (pointsTo_union hd).2
theorem halve {ℓ : Loc nD τ sig} {I : Finset (Idx ℓ)} {f : Buf (Elt F) ℓ} :
    (ℓ ↦[I]{full} f : sProp 𝕄) ⊢ iprop((ℓ ↦[I]{lft} f) ∗ (ℓ ↦[I]{rgt} f)) :=
  (pointsTo_share (PosShare.mem_left_op_right fullShare)).1
theorem mend {ℓ : Loc nD τ sig} {I : Finset (Idx ℓ)} {f : Buf (Elt F) ℓ} :
    iprop((ℓ ↦[I]{lft} f) ∗ (ℓ ↦[I]{rgt} f)) ⊢ (ℓ ↦[I]{full} f : sProp 𝕄) :=
  (pointsTo_share (PosShare.mem_left_op_right fullShare)).2

theorem halves_u : rows 0 512 ∪ rows 512 1024 = Finset.univ := (rows_union (by decide) (by decide)).trans rows_univ
theorem halves_d : Disjoint (rows 0 512) (rows 512 1024) := rows_disjoint (.inl (by decide))
theorem lower_u : rows 0 256 ∪ rows 256 512 = rows 0 512 := rows_union (by decide) (by decide)
theorem lower_d : Disjoint (rows 0 256) (rows 256 512) := rows_disjoint (.inl (by decide))
theorem upper_u : rows 512 768 ∪ rows 768 1024 = rows 512 1024 := rows_union (by decide) (by decide)
theorem upper_d : Disjoint (rows 512 768) (rows 768 1024) := rows_disjoint (.inl (by decide))

/-! ## Reads -/

theorem emb_val {off : Fin 2 → ℕ} {n : ℕ} {inb : ∀ x, off x + (![n, 512] : Fin 2 → ℕ) x ≤ S1024x512.size x}
    (j : (Rect.unit (s := S1024x512) off ![n, 512] inb).shape.Idx) (x : Fin 2) :
    ((Rect.unit (s := S1024x512) off ![n, 512] inb).emb j x).val = off x + (j x).val := by
  rw [Rect.emb_apply]; show off x + 1 * (j x).val = _; rw [Nat.one_mul]

/-- A window of the kept rows reads as the argument's window they come from. -/
theorem read_kept (a : Blk F) (d r r' n : ℕ) {off off' : Fin 2 → ℕ} (ho : off = ![r, 0]) (ho' : off' = ![r', 0])
    (inb : ∀ x, off x + (![n, 512] : Fin 2 → ℕ) x ≤ S1024x512.size x)
    (inb' : ∀ x, off' x + (![n, 512] : Fin 2 → ℕ) x ≤ S1024x512.size x) (h : ∀ x < n, (r + x + d) % 1024 = r' + x) :
    (fun j : (⟨2, ![n, 512]⟩ : Shape).Idx => a (mv d ((Rect.unit (s := S1024x512) off ![n, 512] inb).emb j)))
      = fun j => a ((Rect.unit (s := S1024x512) off' ![n, 512] inb').emb j) := by
  subst ho ho'
  funext j
  refine congrArg a (idx_ext ?_ ?_)
  · rw [mv_row, emb_val, emb_val]; exact h _ (j 0).isLt
  · rw [mv_col, emb_val, emb_val]; rfl

theorem lo_shift (x : ℕ) (h : x < 512) : (0 + x + lo c) % 1024 = lo c + x := by
  rcases lo_hi c with ⟨h, h'⟩ | ⟨h, h'⟩ <;> rw [h] <;> omega
theorem hi_shift (x : ℕ) (h : x < 512) : (512 + x + lo c) % 1024 = hi c + x := by
  rcases lo_hi c with ⟨h, h'⟩ | ⟨h, h'⟩ <;> rw [h, h'] <;> omega

theorem lo_back (x : ℕ) (h : x < 512) : (lo c + x + lo c) % 1024 = 0 + x := by
  rcases lo_hi c with ⟨h, h'⟩ | ⟨h, h'⟩ <;> rw [h] <;> omega
theorem hi_back (x : ℕ) (h : x < 512) : (hi c + x + lo c) % 1024 = 512 + x := by
  rcases lo_hi c with ⟨h, h'⟩ | ⟨h, h'⟩ <;> rw [h, h'] <;> omega

/-- What lands from the sender `c` at `px c`. -/
theorem got_px (a : Dev nD → Blk F) {i : S1024x512.Idx} (h : (i 0).val < 512) : got a (px c) i = kept a c i := by
  unfold got; rw [if_pos h, px_px]
/-- What lands from `c` at `py c`: what had landed at `c`. -/
theorem got_py (a : Dev nD → Blk F) {i j : S1024x512.Idx} (h : (j 0).val < 512) (h0 : (i 0).val = (j 0).val + 512) (h1 : (i 1).val = (j 1).val) :
    got a (py c) i = got a c j := by
  have e : mv 512 i = j := idx_ext (by rw [mv_row]; omega) (by rw [mv_col]; exact h1)
  unfold got; rw [if_pos h, if_neg (by omega), py_py, e]

theorem read_px (a : Dev nD → Blk F) (r : ℕ) (hr : r + 256 ≤ 512) (inb inb' : ∀ x, (![r, 0] : Fin 2 → ℕ) x + (![256, 512] : Fin 2 → ℕ) x ≤ S1024x512.size x) :
    (fun j : S256x512.Idx => got a (px c) ((Rect.unit (s := S1024x512) ![r, 0] ![256, 512] inb).emb j))
      = fun j => kept a c ((Rect.unit (s := S1024x512) ![r, 0] ![256, 512] inb').emb j) := by
  funext j
  refine got_px c a ?_
  rw [emb_val]
  have h : (j 0).val < 256 := (j 0).isLt
  show r + (j 0).val < 512
  omega
theorem read_py (a : Dev nD → Blk F) (r r' : ℕ) (hr : r + 256 ≤ 512) (hr' : r' = r + 512)
    (inb' : ∀ x, (![r', 0] : Fin 2 → ℕ) x + (![256, 512] : Fin 2 → ℕ) x ≤ S1024x512.size x)
    (inb : ∀ x, (![r, 0] : Fin 2 → ℕ) x + (![256, 512] : Fin 2 → ℕ) x ≤ S1024x512.size x) :
    (fun j : S256x512.Idx => got a (py c) ((Rect.unit (s := S1024x512) ![r', 0] ![256, 512] inb').emb j))
      = fun j => got a c ((Rect.unit (s := S1024x512) ![r, 0] ![256, 512] inb).emb j) := by
  subst hr'
  funext j
  have h : (j 0).val < 256 := (j 0).isLt
  refine got_py c a ?_ ?_ ?_
  · rw [emb_val]; show r + (j 0).val < 512; omega
  · rw [emb_val, emb_val]; show r + 512 + (j 0).val = r + (j 0).val + 512; omega
  · rw [emb_val, emb_val]; rfl

/-- A window of 256 rows reads as `win`. -/
theorem read_win (f : Blk F) (r : ℕ) (hr : r + 256 ≤ 1024) (inb : ∀ x, (![r, 0] : Fin 2 → ℕ) x + (![256, 512] : Fin 2 → ℕ) x ≤ S1024x512.size x) :
    (fun j : S256x512.Idx => f ((Rect.unit (s := S1024x512) ![r, 0] ![256, 512] inb).emb j)) = win r hr f := by
  funext j
  refine congrArg f (idx_ext ?_ ?_)
  · rw [emb_val]; rfl
  · rw [emb_val]; show 0 + (j 1).val = (j 1).val; omega

/-! ## The windows by name -/

abbrev argLo (m : Memref sig .tc .hbm S1024x512 .bf16) : Memref sig .tc .hbm S512x512 .bf16 :=
  m.slice (Rect.unit (s := S1024x512) (k0_off1 c) S512x512.size (k0_off1_inb c)) (fun _ => rfl)
abbrev argHi (m : Memref sig .tc .hbm S1024x512 .bf16) : Memref sig .tc .hbm S512x512 .bf16 :=
  m.slice (Rect.unit (s := S1024x512) (k0_off2 c) S512x512.size (k0_off2_inb c)) (fun _ => rfl)
abbrev bufLo (m : Memref sig .tc .vmem S1024x512 .bf16) : Memref sig .tc .vmem S512x512 .bf16 :=
  m.slice (Rect.unit (s := S1024x512) ![0, 0] S512x512.size inb_S1024x512_S512x512_0_0) (fun _ => rfl)
abbrev bufHi (m : Memref sig .tc .vmem S1024x512 .bf16) : Memref sig .tc .vmem S512x512 .bf16 :=
  m.slice (Rect.unit (s := S1024x512) ![512, 0] S512x512.size inb_S1024x512_S512x512_512_0) (fun _ => rfl)
abbrev qtr0 (m : Memref sig .tc .vmem S1024x512 .bf16) : Memref sig .tc .vmem S256x512 .bf16 :=
  m.slice (Rect.unit (s := S1024x512) ![0, 0] S256x512.size inb_S1024x512_S256x512_0_0) (fun _ => rfl)
abbrev qtr1 (m : Memref sig .tc .vmem S1024x512 .bf16) : Memref sig .tc .vmem S256x512 .bf16 :=
  m.slice (Rect.unit (s := S1024x512) ![256, 0] S256x512.size inb_S1024x512_S256x512_256_0) (fun _ => rfl)
abbrev qtr2 (m : Memref sig .tc .vmem S1024x512 .bf16) : Memref sig .tc .vmem S256x512 .bf16 :=
  m.slice (Rect.unit (s := S1024x512) ![512, 0] S256x512.size inb_S1024x512_S256x512_512_0) (fun _ => rfl)
abbrev qtr3 (m : Memref sig .tc .vmem S1024x512 .bf16) : Memref sig .tc .vmem S256x512 .bf16 :=
  m.slice (Rect.unit (s := S1024x512) ![768, 0] S256x512.size inb_S1024x512_S256x512_768_0) (fun _ => rfl)

abbrev v1M : Memref sig .tc .hbm S1024x512 .bf16 := Memref.whole main_v1
abbrev v2M : Memref sig .tc .hbm S1024x512 .bf16 := Memref.whole main_v2
abbrev v3M : Memref sig .tc .hbm S1024x512 .bf16 := Memref.whole main_v3
abbrev v4M : Memref sig .tc .hbm S1024x512 .bf16 := Memref.whole main_v4
abbrev qM : Memref sig .tc .vmem S1024x512 .bf16 := Memref.whole cc0_scratch0
abbrev klM : Memref sig .tc .vmem S1024x512 .bf16 := Memref.whole cc0_scratch1
abbrev vlM : Memref sig .tc .vmem S1024x512 .bf16 := Memref.whole cc0_scratch2
abbrev krM : Memref sig .tc .vmem S1024x512 .bf16 := Memref.whole cc0_scratch3
abbrev vrM : Memref sig .tc .vmem S1024x512 .bf16 := Memref.whole cc0_scratch4
abbrev outM : Memref sig .tc .vmem S1024x512 .bf16 := Memref.whole cc0_scratch5

theorem set_v1Lo : (argLo c v1M).view.set = rows (lo c) (lo c + 512) := (View.set_slice_whole main_v1 _).trans (lo_rows c)
theorem set_v1Hi : (argHi c v1M).view.set = rows (hi c) (hi c + 512) := (View.set_slice_whole main_v1 _).trans (hi_rows c)
theorem set_v2Lo : (argLo c v2M).view.set = rows (lo c) (lo c + 512) := (View.set_slice_whole main_v2 _).trans (lo_rows c)
theorem set_v2Hi : (argHi c v2M).view.set = rows (hi c) (hi c + 512) := (View.set_slice_whole main_v2 _).trans (hi_rows c)
theorem set_v3Lo : (argLo c v3M).view.set = rows (lo c) (lo c + 512) := (View.set_slice_whole main_v3 _).trans (lo_rows c)
theorem set_v3Hi : (argHi c v3M).view.set = rows (hi c) (hi c + 512) := (View.set_slice_whole main_v3 _).trans (hi_rows c)
theorem set_v4Lo : (argLo c v4M).view.set = rows (lo c) (lo c + 512) := (View.set_slice_whole main_v4 _).trans (lo_rows c)
theorem set_v4Hi : (argHi c v4M).view.set = rows (hi c) (hi c + 512) := (View.set_slice_whole main_v4 _).trans (hi_rows c)
theorem set_qLo : (bufLo qM).view.set = rows 0 512 := (View.set_slice_whole cc0_scratch0 _).trans (rect_rows 0 512 _)
theorem set_qHi : (bufHi qM).view.set = rows 512 1024 := (View.set_slice_whole cc0_scratch0 _).trans (rect_rows 512 512 _)
theorem set_klLo : (bufLo klM).view.set = rows 0 512 := (View.set_slice_whole cc0_scratch1 _).trans (rect_rows 0 512 _)
theorem set_klHi : (bufHi klM).view.set = rows 512 1024 := (View.set_slice_whole cc0_scratch1 _).trans (rect_rows 512 512 _)
theorem set_vlLo : (bufLo vlM).view.set = rows 0 512 := (View.set_slice_whole cc0_scratch2 _).trans (rect_rows 0 512 _)
theorem set_vlHi : (bufHi vlM).view.set = rows 512 1024 := (View.set_slice_whole cc0_scratch2 _).trans (rect_rows 512 512 _)
theorem set_outLo : (bufLo outM).view.set = rows 0 512 := (View.set_slice_whole cc0_scratch5 _).trans (rect_rows 0 512 _)
theorem set_outHi : (bufHi outM).view.set = rows 512 1024 := (View.set_slice_whole cc0_scratch5 _).trans (rect_rows 512 512 _)
theorem set_kl0 : (qtr0 klM).view.set = rows 0 256 := (View.set_slice_whole cc0_scratch1 _).trans (rect_rows 0 256 _)
theorem set_kl1 : (qtr1 klM).view.set = rows 256 512 := (View.set_slice_whole cc0_scratch1 _).trans (rect_rows 256 256 _)
theorem set_vl0 : (qtr0 vlM).view.set = rows 0 256 := (View.set_slice_whole cc0_scratch2 _).trans (rect_rows 0 256 _)
theorem set_vl1 : (qtr1 vlM).view.set = rows 256 512 := (View.set_slice_whole cc0_scratch2 _).trans (rect_rows 256 256 _)
theorem set_kr0 : (qtr0 krM).view.set = rows 0 256 := (View.set_slice_whole cc0_scratch3 _).trans (rect_rows 0 256 _)
theorem set_kr1 : (qtr1 krM).view.set = rows 256 512 := (View.set_slice_whole cc0_scratch3 _).trans (rect_rows 256 256 _)
theorem set_kr2 : (qtr2 krM).view.set = rows 512 768 := (View.set_slice_whole cc0_scratch3 _).trans (rect_rows 512 256 _)
theorem set_kr3 : (qtr3 krM).view.set = rows 768 1024 := (View.set_slice_whole cc0_scratch3 _).trans (rect_rows 768 256 _)
theorem set_vr0 : (qtr0 vrM).view.set = rows 0 256 := (View.set_slice_whole cc0_scratch4 _).trans (rect_rows 0 256 _)
theorem set_vr1 : (qtr1 vrM).view.set = rows 256 512 := (View.set_slice_whole cc0_scratch4 _).trans (rect_rows 256 256 _)
theorem set_vr2 : (qtr2 vrM).view.set = rows 512 768 := (View.set_slice_whole cc0_scratch4 _).trans (rect_rows 512 256 _)
theorem set_vr3 : (qtr3 vrM).view.set = rows 768 1024 := (View.set_slice_whole cc0_scratch4 _).trans (rect_rows 768 256 _)

theorem read_qLo (a : Dev nD → Blk F) : (bufLo qM).view.read (Elt F) (kept a c) = (argLo c v1M).view.read (Elt F) (a c) :=
  read_kept (a c) (lo c) 0 (lo c) 512 rfl (off1_eq c) _ (k0_off1_inb c) (lo_shift c)
theorem read_qHi (a : Dev nD → Blk F) : (bufHi qM).view.read (Elt F) (kept a c) = (argHi c v1M).view.read (Elt F) (a c) :=
  read_kept (a c) (lo c) 512 (hi c) 512 rfl (off2_eq c) _ (k0_off2_inb c) (hi_shift c)
theorem read_klLo (a : Dev nD → Blk F) : (bufLo klM).view.read (Elt F) (kept a c) = (argLo c v2M).view.read (Elt F) (a c) :=
  read_kept (a c) (lo c) 0 (lo c) 512 rfl (off1_eq c) _ (k0_off1_inb c) (lo_shift c)
theorem read_klHi (a : Dev nD → Blk F) : (bufHi klM).view.read (Elt F) (kept a c) = (argHi c v2M).view.read (Elt F) (a c) :=
  read_kept (a c) (lo c) 512 (hi c) 512 rfl (off2_eq c) _ (k0_off2_inb c) (hi_shift c)
theorem read_vlLo (a : Dev nD → Blk F) : (bufLo vlM).view.read (Elt F) (kept a c) = (argLo c v3M).view.read (Elt F) (a c) :=
  read_kept (a c) (lo c) 0 (lo c) 512 rfl (off1_eq c) _ (k0_off1_inb c) (lo_shift c)
theorem read_vlHi (a : Dev nD → Blk F) : (bufHi vlM).view.read (Elt F) (kept a c) = (argHi c v3M).view.read (Elt F) (a c) :=
  read_kept (a c) (lo c) 512 (hi c) 512 rfl (off2_eq c) _ (k0_off2_inb c) (hi_shift c)
theorem read_outLo (a : Dev nD → Blk F) : (argLo c v4M).view.read (Elt F) (kept a c) = (bufLo outM).view.read (Elt F) (a c) :=
  read_kept (a c) (lo c) (lo c) 0 512 (off1_eq c) rfl (k0_off1_inb c) _ (lo_back c)
theorem read_outHi (a : Dev nD → Blk F) : (argHi c v4M).view.read (Elt F) (kept a c) = (bufHi outM).view.read (Elt F) (a c) :=
  read_kept (a c) (lo c) (hi c) 512 512 (off2_eq c) rfl (k0_off2_inb c) _ (hi_back c)
theorem read_kx0 (a : Dev nD → Blk F) : (qtr0 krM).view.read (Elt F) (got a (px c)) = (qtr0 klM).view.read (Elt F) (kept a c) :=
  read_px c a 0 (by decide) _ _
theorem read_ky0 (a : Dev nD → Blk F) : (qtr2 krM).view.read (Elt F) (got a (py c)) = (qtr0 krM).view.read (Elt F) (got a c) :=
  read_py c a 0 512 (by decide) rfl _ _
theorem read_kx1 (a : Dev nD → Blk F) : (qtr1 krM).view.read (Elt F) (got a (px c)) = (qtr1 klM).view.read (Elt F) (kept a c) :=
  read_px c a 256 (by decide) _ _
theorem read_ky1 (a : Dev nD → Blk F) : (qtr3 krM).view.read (Elt F) (got a (py c)) = (qtr1 krM).view.read (Elt F) (got a c) :=
  read_py c a 256 768 (by decide) rfl _ _
theorem read_vx0 (a : Dev nD → Blk F) : (qtr0 vrM).view.read (Elt F) (got a (px c)) = (qtr0 vlM).view.read (Elt F) (kept a c) :=
  read_px c a 0 (by decide) _ _
theorem read_vy0 (a : Dev nD → Blk F) : (qtr2 vrM).view.read (Elt F) (got a (py c)) = (qtr0 vrM).view.read (Elt F) (got a c) :=
  read_py c a 0 512 (by decide) rfl _ _
theorem read_vx1 (a : Dev nD → Blk F) : (qtr1 vrM).view.read (Elt F) (got a (px c)) = (qtr1 vlM).view.read (Elt F) (kept a c) :=
  read_px c a 256 (by decide) _ _
theorem read_vy1 (a : Dev nD → Blk F) : (qtr3 vrM).view.read (Elt F) (got a (py c)) = (qtr1 vrM).view.read (Elt F) (got a c) :=
  read_py c a 256 768 (by decide) rfl _ _

end Cert.KernelIdeal.Att
end
-- ==== Proof.RunA.lean ====
/-
# The run, up to the sends

The kernel's parts in order, each from what it uses to what it leaves, over the program that follows it. Here: the six
copies into the device's buffers, the two signals, the wait for both partners, the waits for the keys and values, and
the four sends to `px c`.
-/
module

public import proofs.«01_k».proof.Proof.Windows

@[expose] public section

noncomputable section

namespace Cert.KernelIdeal.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (q k v o : Dev nD → Blk F) (K : GSem nD τ sig → ℕ) (c : Dev nD)

theorem zero_off : (![0, 0] : Fin 2 → ℕ) = fun _ => 0 := by decide

set_option maxHeartbeats 1600000 in
theorem part1 {α : Type} {Q : α → sProp 𝕄} {kk : (Σ' (d0 : Dev nD) (v2 : BitVec 32) (v5 : BitVec 32) (v8 : BitVec 32) (v9 : BitVec 32), BitVec 32) → Prog (TpuEff nD τ sig (Elt F) Λ₀ .tc) α} :
    iprop(ctx q k v o K ∗ rdy c 0 ∗ rdy c 1 ∗ rdy c 2
        ∗ pt c main_v2 Finset.univ full (k c) ∗ pt c main_v3 (rows (lo c) (lo c + 512)) full (v c)
        ∗ (∃ f, pt c cc0_scratch1 (rows 0 512) full f) ∗ (∃ f, pt c cc0_scratch1 (rows 512 1024) full f)
        ∗ (∃ f, pt c cc0_scratch2 (rows 0 512) full f))
      ⊢ iprop((∀ w2 w5 w8 w9 w10, (fly c 0 ∗ fly c 1 ∗ fly c 2) -∗ WP c (kk ⟨c, w2, w5, w8, w9, w10⟩) Q)
        -∗ WP c (onBufs (k0_part1 (F := F)) >>= kk) Q) := by
  dsimp only [onBufs]
  simp only [k0_part1_eq_skeleton]; unfold k0_part1_skel
  simp only [Prog.lift, Prog.bind_op, Prog.bind_ret, Prog.pure_eq_ret, Prog.bind_assoc, wp_deviceId]
  iintro ⟨#HC, H0, H1, H2, Hk, Hv, ⟨%f0, Hf0⟩, ⟨%f1, Hf1⟩, ⟨%f2, Hf2⟩⟩ Hn
  ihave Hk' := (part (args_union c) (args_disjoint c)) $$ Hk
  icases Hk' with ⟨HkL, HkH⟩
  iapply (wp_local q k v o K c 0 (src := argLo c v2M) (dst := bufLo klM) (fs := k c) (kept k c) (set_v2Lo c) set_klLo rfl (read_klLo c k) rfl) $$ HC H0 HkL Hf0
  iintro H0
  iapply (wp_local q k v o K c 1 (src := argHi c v2M) (dst := bufHi klM) (fs := k c) (kept k c) (set_v2Hi c) set_klHi rfl (read_klHi c k) rfl) $$ HC H1 HkH Hf1
  iintro H1
  iapply (wp_local q k v o K c 2 (src := argLo c v3M) (dst := bufLo vlM) (fs := v c) (kept v c) (set_v3Lo c) set_vlLo rfl (read_vlLo c v) rfl) $$ HC H2 Hv Hf2
  iintro H2
  iapply Hn
  isplitl [H0]; · iexact H0
  isplitl [H1] <;> iassumption

set_option maxHeartbeats 1600000 in
theorem part2 {α : Type} {Q : α → sProp 𝕄} (w2 w5 w8 w9 w10 : BitVec 32) {kk : PUnit → Prog (TpuEff nD τ sig (Elt F) Λ₀ .tc) α} :
    iprop(ctx q k v o K ∗ rdy c 3 ∗ rdy c 4 ∗ rdy c 5 ∗ fly c 0
        ∗ pt c main_v3 (rows (hi c) (hi c + 512)) full (v c) ∗ pt c main_v1 Finset.univ full (q c)
        ∗ (∃ f, pt c cc0_scratch2 (rows 512 1024) full f)
        ∗ (∃ f, pt c cc0_scratch0 (rows 0 512) full f) ∗ (∃ f, pt c cc0_scratch0 (rows 512 1024) full f)
        ∗ landX c ∗ landY c
        ∗ dutyTok ER (barCell (px c)) 0 false ∗ reached ER (barCell (px c)) 0
        ∗ dutyTok ER (barCell (py c)) 0 true ∗ reached ER (barCell (py c)) 0
        ∗ atPos ER (barCell c) 0 ∅ 0 ∗ cred (tallyAt (barCell c) () 2) ∗ ow c 0)
      ⊢ iprop(((fly c 3 ∗ fly c 4 ∗ fly c 5 ∗ dne c 0 ∗ ow c 2 ∗ atPos ER (barCell c) 1 ∅ 0 ∗ landX (px c) ∗ landY (py c)
          ∗ pt c cc0_scratch1 (rows 0 512) full (kept k c) ∗ pt c main_v2 (rows (lo c) (lo c + 512)) full (k c)) -∗ WP c (kk ⟨⟩) Q)
        -∗ WP c (onBufs (k0_part2 (F := F)) c w2 w5 w8 w9 w10 >>= kk) Q) := by
  dsimp only [onBufs]
  simp only [k0_part2_eq_skeleton]; unfold k0_part2_skel
  simp only [semSignalWord, semWaitWord, Prog.lift, Prog.bind_op, Prog.bind_ret, Prog.pure_eq_ret, Prog.bind_assoc]
  iintro ⟨#HC, H3, H4, H5, H0, Hv, Hq, ⟨%f2, Hf2⟩, ⟨%f3, Hf3⟩, ⟨%f4, Hf4⟩, HX, HY, HtX, HrX, HtY, HrY, Hat, Hc, HO⟩ Hn
  ihave Hq' := (part (args_union c) (args_disjoint c)) $$ Hq
  icases Hq' with ⟨HqL, HqH⟩
  iapply (wp_local q k v o K c 3 (src := argHi c v3M) (dst := bufHi vlM) (fs := v c) (kept v c) (set_v3Hi c) set_vlHi rfl (read_vlHi c v) rfl) $$ HC H3 Hv Hf2
  iintro H3
  iapply (wp_local q k v o K c 4 (src := argLo c v1M) (dst := bufLo qM) (fs := q c) (kept q c) (set_v1Lo c) set_qLo rfl (read_qLo c q) rfl) $$ HC H4 HqL Hf3
  iintro H4
  iapply (wp_local q k v o K c 5 (src := argHi c v1M) (dst := bufHi qM) (fs := q c) (kept q c) (set_v1Hi c) set_qHi rfl (read_qHi c q) rfl) $$ HC H5 HqH Hf4
  iintro H5
  iapply (wp_hail q k v o K c _ (px c) (dev1_eq c) 0 false rfl (pay_x q k v o c) rfl) $$ HC HtX HrX HO HX
  iintro HO
  iapply (wp_hail q k v o K c _ (py c) (dev2_eq c) 1 true rfl (pay_y q k v o c) rfl) $$ HC HtY HrY HO HY
  iintro HO
  iapply (wp_meet q k v o K c 2 (by decide) rfl) $$ HC Hat Hc HO
  iintro ⟨HO, Hat, HX, HY⟩
  iapply (wp_arrive q k v o K c 0 2 (src := argLo c v2M) (dst := bufLo klM) rfl (by decide) (pay_0 q k v o c)) $$ HC H0 HO
  iintro ⟨HO, H0, Hkl, Hk⟩
  iapply Hn
  isplitl [H3]; · iexact H3
  isplitl [H4]; · iexact H4
  isplitl [H5]; · iexact H5
  isplitl [H0]; · iexact H0
  isplitl [HO]; · iexact HO
  isplitl [Hat]; · iexact Hat
  isplitl [HX]; · iexact HX
  isplitl [HY]; · iexact HY
  isplitl [Hkl] <;> iassumption

set_option maxHeartbeats 1600000 in
theorem part3 {α : Type} {Q : α → sProp 𝕄} (w5 w8 w9 : BitVec 32) {kk : PUnit → Prog (TpuEff nD τ sig (Elt F) Λ₀ .tc) α} :
    iprop(ctx q k v o K ∗ fly c 1 ∗ fly c 2 ∗ fly c 3 ∗ rdy c 8 ∗ ship (px c) 16 ∗ ow c 2
        ∗ pt c cc0_scratch1 (rows 0 512) full (kept k c) ∗ (∃ f, pt (px c) cc0_scratch3 (rows 0 256) full f))
      ⊢ iprop(((dne c 1 ∗ dne c 2 ∗ dne c 3 ∗ fly c 8 ∗ ow c 3
          ∗ pt c cc0_scratch1 Finset.univ rgt (kept k c) ∗ pt c cc0_scratch1 (rows 256 512) lft (kept k c) ∗ pt c cc0_scratch1 (rows 512 1024) lft (kept k c)
          ∗ pt c cc0_scratch2 (rows 0 512) full (kept v c) ∗ pt c cc0_scratch2 (rows 512 1024) full (kept v c)
          ∗ pt c main_v2 (rows (hi c) (hi c + 512)) full (k c) ∗ pt c main_v3 Finset.univ full (v c)) -∗ WP c (kk ⟨⟩) Q)
        -∗ WP c (onBufs (k0_part3 (F := F)) c w5 w8 w9 >>= kk) Q) := by
  dsimp only [onBufs]
  simp only [k0_part3_eq_skeleton]; unfold k0_part3_skel
  simp only [Prog.lift, Prog.bind_op, Prog.bind_ret, Prog.pure_eq_ret, Prog.bind_assoc]
  iintro ⟨#HC, H1, H2, H3, H8, Hs, HO, Hkl, ⟨%f, Hf⟩⟩ Hn
  iapply (wp_arrive q k v o K c 1 2 (src := argHi c v2M) (dst := bufHi klM) rfl (by decide) (pay_1 q k v o c)) $$ HC H1 HO
  iintro ⟨HO, H1, Hkh, Hk⟩
  iapply (wp_arrive q k v o K c 2 2 (src := argLo c v3M) (dst := bufLo vlM) rfl (by decide) (pay_2 q k v o c)) $$ HC H2 HO
  iintro ⟨HO, H2, Hvl, HvL⟩
  iapply (wp_arrive q k v o K c 3 2 (src := argHi c v3M) (dst := bufHi vlM) rfl (by decide) (pay_3 q k v o c)) $$ HC H3 HO
  iintro ⟨HO, H3, Hvh, HvH⟩
  icombine HvL HvH as Hv
  ihave Hv := (fuse (args_union c) (args_disjoint c)) $$ Hv
  ihave Hkl := halve $$ Hkl
  icases Hkl with ⟨Hkl, Hklr⟩
  ihave Hkh := halve $$ Hkh
  icases Hkh with ⟨Hkh, Hkhr⟩
  icombine Hklr Hkhr as Hkr
  ihave Hkr := (fuse halves_u halves_d) $$ Hkr
  ihave Hkl := (part lower_u lower_d) $$ Hkl
  icases Hkl with ⟨Hk0, Hk1⟩
  iapply (wp_ship q k v o K c 8 16 _ (px c) (dev3_eq c) 2 (src := qtr0 klM) (dst := qtr0 krM) (fs := kept k c) (got k (px c)) set_kl0 set_kr0 rfl rfl rfl rfl
    (read_kx0 c k) rfl rfl) $$ HC H8 Hs HO Hk0 Hf
  iintro ⟨H8, HO⟩
  iapply Hn
  isplitl [H1]; · iexact H1
  isplitl [H2]; · iexact H2
  isplitl [H3]; · iexact H3
  isplitl [H8]; · iexact H8
  isplitl [HO]; · iexact HO
  isplitl [Hkr]; · iexact Hkr
  isplitl [Hk1]; · iexact Hk1
  isplitl [Hkh]; · iexact Hkh
  isplitl [Hvl]; · iexact Hvl
  isplitl [Hvh]; · iexact Hvh
  isplitl [Hk] <;> iassumption

set_option maxHeartbeats 1600000 in
theorem part4 {α : Type} {Q : α → sProp 𝕄} (w5 w8 w9 : BitVec 32) {kk : PUnit → Prog (TpuEff nD τ sig (Elt F) Λ₀ .tc) α} :
    iprop(ctx q k v o K ∗ rdy c 12 ∗ rdy c 9 ∗ rdy c 13 ∗ ship (px c) 20 ∗ ship (px c) 17 ∗ ship (px c) 21 ∗ ow c 3
        ∗ pt c cc0_scratch1 (rows 256 512) lft (kept k c)
        ∗ pt c cc0_scratch2 (rows 0 512) full (kept v c) ∗ pt c cc0_scratch2 (rows 512 1024) full (kept v c)
        ∗ (∃ f, pt (px c) cc0_scratch3 (rows 256 512) full f) ∗ (∃ f, pt (px c) cc0_scratch4 (rows 0 512) full f))
      ⊢ iprop(((fly c 12 ∗ fly c 9 ∗ fly c 13 ∗ ow c 6
          ∗ pt c cc0_scratch2 Finset.univ rgt (kept v c) ∗ pt c cc0_scratch2 (rows 512 1024) lft (kept v c)) -∗ WP c (kk ⟨⟩) Q)
        -∗ WP c (onBufs (k0_part4 (F := F)) c w5 w8 w9 >>= kk) Q) := by
  dsimp only [onBufs]
  simp only [k0_part4_eq_skeleton]; unfold k0_part4_skel
  simp only [Prog.lift, Prog.bind_op, Prog.bind_ret, Prog.pure_eq_ret, Prog.bind_assoc]
  iintro ⟨#HC, H12, H9, H13, Hs20, Hs17, Hs21, HO, Hk1, Hvl, Hvh, ⟨%f, Hf⟩, ⟨%g, Hg⟩⟩ Hn
  ihave Hvl := halve $$ Hvl
  icases Hvl with ⟨Hvl, Hvlr⟩
  ihave Hvh := halve $$ Hvh
  icases Hvh with ⟨Hvh, Hvhr⟩
  icombine Hvlr Hvhr as Hvr
  ihave Hvr := (fuse halves_u halves_d) $$ Hvr
  ihave Hvl := (part lower_u lower_d) $$ Hvl
  icases Hvl with ⟨Hv0, Hv1⟩
  ihave Hg := (part lower_u lower_d) $$ Hg
  icases Hg with ⟨Hg0, Hg1⟩
  iapply (wp_ship q k v o K c 12 20 _ (px c) (dev4_eq c) 3 (src := qtr0 vlM) (dst := qtr0 vrM) (fs := kept v c) (got v (px c)) set_vl0 set_vr0 rfl rfl rfl rfl
    (read_vx0 c v) rfl rfl) $$ HC H12 Hs20 HO Hv0 Hg0
  iintro ⟨H12, HO⟩
  iapply (wp_ship q k v o K c 9 17 _ (px c) (dev5_eq c) 4 (src := qtr1 klM) (dst := qtr1 krM) (fs := kept k c) (got k (px c)) set_kl1 set_kr1 rfl rfl rfl rfl
    (read_kx1 c k) rfl rfl) $$ HC H9 Hs17 HO Hk1 Hf
  iintro ⟨H9, HO⟩
  iapply (wp_ship q k v o K c 13 21 _ (px c) (dev6_eq c) 5 (src := qtr1 vlM) (dst := qtr1 vrM) (fs := kept v c) (got v (px c)) set_vl1 set_vr1 rfl rfl rfl rfl
    (read_vx1 c v) rfl rfl) $$ HC H13 Hs21 HO Hv1 Hg1
  iintro ⟨H13, HO⟩
  iapply Hn
  isplitl [H12]; · iexact H12
  isplitl [H9]; · iexact H9
  isplitl [H13]; · iexact H13
  isplitl [HO]; · iexact HO
  isplitl [Hvr] <;> iassumption

set_option maxHeartbeats 1600000 in
theorem part5 {α : Type} {Q : α → sProp 𝕄} {kk : (Σ' (v125 : FVec F S1024x512 .bf16) (v126 : Vec F S1024x512 .bf16) (v127 : Vec F S1024x512 .bf16) (v128 : FVec F S512x512 .bf16) (v138 : FVec F S512x64 .f32) (v139 : FVec F S512x1 .f32) (v149 : FVec F S512x64 .f32) (v150 : FVec F S512x1 .f32) (v153 : FVec F S512x64 .bf16), FVec F S512x512 .f32) → Prog (TpuEff nD τ sig (Elt F) Λ₀ .tc) α} :
    iprop(ctx q k v o K ∗ fly c 4 ∗ fly c 5 ∗ ow c 6
        ∗ pt c cc0_scratch1 Finset.univ rgt (kept k c) ∗ pt c cc0_scratch2 Finset.univ rgt (kept v c))
      ⊢ iprop(((dne c 4 ∗ dne c 5 ∗ ow c 6
          ∗ pt c cc0_scratch1 Finset.univ rgt (kept k c) ∗ pt c cc0_scratch2 Finset.univ rgt (kept v c)
          ∗ pt c cc0_scratch0 Finset.univ full (kept q c) ∗ pt c main_v1 Finset.univ full (q c)) -∗
            WP c (kk ⟨k0_pay1 (kept q c), kept k c, kept v c, k0_pay2 (kept q c), k0_pay4 (kept q c) (kept k c) (kept v c), k0_pay5 (kept q c) (kept k c) (kept v c),
              k0_pay7 (kept q c) (kept k c) (kept v c), k0_pay8 (kept q c) (kept k c) (kept v c), k0_pay9 (kept v c), k0_pay10 (kept q c) (kept k c)⟩) Q)
        -∗ WP c (onBufs (k0_part5 (F := F)) c >>= kk) Q) := by
  dsimp only [onBufs]
  simp only [k0_part5_eq_skeleton]; unfold k0_part5_skel
  simp only [Prog.lift, Prog.bind_op, Prog.bind_ret, Prog.pure_eq_ret, Prog.bind_assoc]
  iintro ⟨#HC, H4, H5, HO, Hk, Hv⟩ Hn
  iapply (wp_arrive q k v o K c 4 6 (src := argLo c v1M) (dst := bufLo qM) rfl (by decide) (pay_4 q k v o c)) $$ HC H4 HO
  iintro ⟨HO, H4, Hql, HqL⟩
  iapply (wp_arrive q k v o K c 5 6 (src := argHi c v1M) (dst := bufHi qM) rfl (by decide) (pay_5 q k v o c)) $$ HC H5 HO
  iintro ⟨HO, H5, Hqh, HqH⟩
  icombine HqL HqH as Hq1
  ihave Hq1 := (fuse (args_union c) (args_disjoint c)) $$ Hq1
  icombine Hql Hqh as Hq
  ihave Hq := (fuse halves_u halves_d) $$ Hq
  iapply (wp_fetch c (m := qM) (f := kept q c) (Finset.subset_univ _) (Memref.read_access_unit_zero (Elt F) cc0_scratch0 zero_off inb_S1024x512_S1024x512_0_0 _)) $$ Hq
  iintro Hq
  iapply (wp_fetch c (m := klM) (f := kept k c) (Finset.subset_univ _) (Memref.read_access_unit_zero (Elt F) cc0_scratch1 zero_off inb_S1024x512_S1024x512_0_0 _)) $$ Hk
  iintro Hk
  iapply (wp_fetch c (m := vlM) (f := kept v c) (Finset.subset_univ _) (Memref.read_access_unit_zero (Elt F) cc0_scratch2 zero_off inb_S1024x512_S1024x512_0_0 _)) $$ Hv
  iintro Hv
  iapply Hn
  isplitl [H4]; · iexact H4
  isplitl [H5]; · iexact H5
  isplitl [HO]; · iexact HO
  isplitl [Hk]; · iexact Hk
  isplitl [Hv]; · iexact Hv
  isplitl [Hq] <;> iassumption

end Cert.KernelIdeal.Att
end
-- ==== Proof.RunB.lean ====
/-
# The run, the arrivals and the forwards

What comes from `px c`: a quarter of the keys and values at a time, each sent on to `py c` while it is read.
-/
module

public import proofs.«01_k».proof.Proof.RunA

@[expose] public section

noncomputable section

namespace Cert.KernelIdeal.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (q k v o : Dev nD → Blk F) (K : GSem nD τ sig → ℕ) (c : Dev nD)

/-- A quarter of the keys, and of the values, that are loaded. -/
theorem read_kr (f : Blk F) (r : ℕ) (hr : r + 256 ≤ 1024) (inb : ∀ x, (![r, 0] : Fin 2 → ℕ) x + (![256, 512] : Fin 2 → ℕ) x ≤ S1024x512.size x) :
    (krM.access (Rect.unit (s := S1024x512) ![r, 0] S256x512.size inb)).read (Elt F) f = win r hr f := read_win f r hr inb
theorem read_vr (f : Blk F) (r : ℕ) (hr : r + 256 ≤ 1024) (inb : ∀ x, (![r, 0] : Fin 2 → ℕ) x + (![256, 512] : Fin 2 → ℕ) x ≤ S1024x512.size x) :
    (vrM.access (Rect.unit (s := S1024x512) ![r, 0] S256x512.size inb)).read (Elt F) f = win r hr f := read_win f r hr inb

set_option maxHeartbeats 1600000 in
theorem part9 {α : Type} {Q : α → sProp 𝕄} (v2 : BitVec 32) (v5 : BitVec 32) (v8 : BitVec 32) (v9 : BitVec 32) (v10 : BitVec 32) (v127 : Vec F S1024x512 .bf16) (v295 : FVec F S512x64 .bf16) (v296 : FVec F S512x64 .bf16)
    {kk : (Σ' (v304 : FVec F S512x64 .f32), FVec F S512x1 .f32) → Prog (TpuEff nD τ sig (Elt F) Λ₀ .tc) α} :
    iprop(ctx q k v o K ∗ fly c 8 ∗ fly c 16 ∗ ow c 6)
      ⊢ iprop(((dne c 8 ∗ dne c 16 ∗ ow c 6
          ∗ pt c cc0_scratch1 (rows 0 256) lft (kept k c) ∗ pt c cc0_scratch3 (rows 0 256) full (got k c)) -∗ WP c (kk ⟨k0_pay57 v127 v295 v296, k0_pay58 v127 v295 v296⟩) Q)
        -∗ WP c (onBufs (k0_part9 (F := F)) v2 v5 v8 v9 v10 v127 v295 v296 >>= kk) Q) := by
  dsimp only [onBufs]
  simp only [k0_part9_eq_skeleton]; unfold k0_part9_skel
  simp only [Prog.lift, Prog.bind_op, Prog.bind_ret, Prog.pure_eq_ret, Prog.bind_assoc]
  iintro ⟨#HC, H1, H2, HO⟩ Hn
  iapply (wp_arrive q k v o K c 8 6 (src := qtr0 krM) (dst := qtr0 klM) rfl (by decide) (pay_8 q k v o c)) $$ HC H1 HO
  iintro ⟨HO, H1, Hk⟩
  iapply (wp_arrive q k v o K c 16 6 (src := qtr0 klM) (dst := qtr0 krM) rfl (by decide) (pay_16 q k v o c)) $$ HC H2 HO
  iintro ⟨HO, H2, Hr⟩
  iapply Hn
  isplitl [H1]; · iexact H1
  isplitl [H2]; · iexact H2
  isplitl [HO]; · iexact HO
  isplitl [Hk]; · iexact Hk
  iexact Hr

set_option maxHeartbeats 1600000 in
theorem part10 {α : Type} {Q : α → sProp 𝕄} (v2 : BitVec 32) (v5 : BitVec 32) (v8 : BitVec 32) (v9 : BitVec 32) (v10 : BitVec 32)
    {kk : PUnit → Prog (TpuEff nD τ sig (Elt F) Λ₀ .tc) α} :
    iprop(ctx q k v o K ∗ rdy c 10 ∗ ship (py c) 18 ∗ fly c 12 ∗ fly c 20 ∗ ow c 6
        ∗ pt c cc0_scratch3 (rows 0 256) full (got k c) ∗ (∃ f, pt (py c) cc0_scratch3 (rows 512 768) full f))
      ⊢ iprop(((fly c 10 ∗ dne c 12 ∗ dne c 20 ∗ ow c 7
          ∗ pt c cc0_scratch3 (rows 0 256) rgt (got k c)
          ∗ pt c cc0_scratch2 (rows 0 256) lft (kept v c) ∗ pt c cc0_scratch4 (rows 0 256) full (got v c)) -∗ WP c (kk ⟨⟩) Q)
        -∗ WP c (onBufs (k0_part10 (F := F)) c v2 v5 v8 v9 v10 >>= kk) Q) := by
  dsimp only [onBufs]
  simp only [k0_part10_eq_skeleton]; unfold k0_part10_skel
  simp only [Prog.lift, Prog.bind_op, Prog.bind_ret, Prog.pure_eq_ret, Prog.bind_assoc]
  iintro ⟨#HC, H1, Hs, H2, H3, HO, Hk, ⟨%f, Hf⟩⟩ Hn
  ihave Hk := halve $$ Hk
  icases Hk with ⟨Hk, Hkr⟩
  iapply (wp_ship q k v o K c 10 18 _ (py c) (dev7_eq c) 6 (src := qtr0 krM) (dst := qtr2 krM) (fs := got k c) (got k (py c)) set_kr0 set_kr2 rfl rfl rfl rfl
    (read_ky0 c k) rfl rfl) $$ HC H1 Hs HO Hk Hf
  iintro ⟨H1, HO⟩
  iapply (wp_arrive q k v o K c 12 7 (src := qtr0 vrM) (dst := qtr0 vlM) rfl (by decide) (pay_12 q k v o c)) $$ HC H2 HO
  iintro ⟨HO, H2, Hv⟩
  iapply (wp_arrive q k v o K c 20 7 (src := qtr0 vlM) (dst := qtr0 vrM) rfl (by decide) (pay_20 q k v o c)) $$ HC H3 HO
  iintro ⟨HO, H3, Hr⟩
  iapply Hn
  isplitl [H1]; · iexact H1
  isplitl [H2]; · iexact H2
  isplitl [H3]; · iexact H3
  isplitl [HO]; · iexact HO
  isplitl [Hkr]; · iexact Hkr
  isplitl [Hv]; · iexact Hv
  iexact Hr

set_option maxHeartbeats 1600000 in
theorem part11 {α : Type} {Q : α → sProp 𝕄} (v125 : FVec F S1024x512 .bf16) (v138 : FVec F S512x64 .f32) (v139 : FVec F S512x1 .f32) (v149 : FVec F S512x64 .f32) (v150 : FVec F S512x1 .f32) (v160 : FVec F S512x64 .f32) (v161 : FVec F S512x1 .f32)
    {kk : (Σ' (v358 : FVec F S512x512 .bf16) (v359 : Vec F S256x512 .bf16) (v360 : Vec F S256x512 .bf16) (v372 : FVec F S512x64 .f32) (v373 : FVec F S512x1 .f32) (v385 : FVec F S512x64 .f32) (v386 : FVec F S512x1 .f32) (v398 : FVec F S512x64 .f32) (v399 : FVec F S512x1 .f32), FVec F S512x64 .bf16) → Prog (TpuEff nD τ sig (Elt F) Λ₀ .tc) α} :
    iprop(ctx q k v o K ∗ rdy c 14 ∗ ship (py c) 22 ∗ ow c 7
        ∗ pt c cc0_scratch3 (rows 0 256) rgt (got k c) ∗ pt c cc0_scratch4 (rows 0 256) full (got v c)
        ∗ (∃ f, pt (py c) cc0_scratch4 (rows 512 768) full f))
      ⊢ iprop(((fly c 14 ∗ ow c 8
          ∗ pt c cc0_scratch3 (rows 0 256) rgt (got k c) ∗ pt c cc0_scratch4 (rows 0 256) rgt (got v c)) -∗ WP c (kk ⟨k0_pay59 v125, (win 0 (by decide) (got k c)), (win 0 (by decide) (got v c)), k0_pay61 v125 v138 (win 0 (by decide) (got k c)) (win 0 (by decide) (got v c)), k0_pay62 v125 v139 (win 0 (by decide) (got k c)) (win 0 (by decide) (got v c)), k0_pay64 v125 v149 (win 0 (by decide) (got k c)) (win 0 (by decide) (got v c)), k0_pay65 v125 v150 (win 0 (by decide) (got k c)) (win 0 (by decide) (got v c)), k0_pay67 v125 v160 (win 0 (by decide) (got k c)) (win 0 (by decide) (got v c)), k0_pay68 v125 v161 (win 0 (by decide) (got k c)) (win 0 (by decide) (got v c)), k0_pay69 v125⟩) Q)
        -∗ WP c (onBufs (k0_part11 (F := F)) c v125 v138 v139 v149 v150 v160 v161 >>= kk) Q) := by
  dsimp only [onBufs]
  simp only [k0_part11_eq_skeleton]; unfold k0_part11_skel
  simp only [Prog.lift, Prog.bind_op, Prog.bind_ret, Prog.pure_eq_ret, Prog.bind_assoc]
  iintro ⟨#HC, H1, Hs, HO, Hkr, Hk, ⟨%f, Hf⟩⟩ Hn
  ihave Hk := halve $$ Hk
  icases Hk with ⟨Hk, Hvr⟩
  iapply (wp_ship q k v o K c 14 22 _ (py c) (dev8_eq c) 7 (src := qtr0 vrM) (dst := qtr2 vrM) (fs := got v c) (got v (py c)) set_vr0 set_vr2 rfl rfl rfl rfl
    (read_vy0 c v) rfl rfl) $$ HC H1 Hs HO Hk Hf
  iintro ⟨H1, HO⟩
  iapply (wp_fetch c (m := krM) (f := got k c) (w := win 0 (by decide) (got k c)) (le_of_eq set_kr0) (read_kr (got k c) 0 (by decide) _)) $$ Hkr
  iintro Hkr
  iapply (wp_fetch c (m := vrM) (f := got v c) (w := win 0 (by decide) (got v c)) (le_of_eq set_vr0) (read_vr (got v c) 0 (by decide) _)) $$ Hvr
  iintro Hvr
  iapply Hn
  isplitl [H1]; · iexact H1
  isplitl [HO]; · iexact HO
  isplitl [Hkr]; · iexact Hkr
  iexact Hvr

set_option maxHeartbeats 1600000 in
theorem part13 {α : Type} {Q : α → sProp 𝕄} (v2 : BitVec 32) (v5 : BitVec 32) (v8 : BitVec 32) (v9 : BitVec 32) (v10 : BitVec 32) (v204 : FVec F S512x64 .f32) (v205 : FVec F S512x1 .f32) (v215 : FVec F S512x64 .f32) (v216 : FVec F S512x1 .f32) (v358 : FVec F S512x512 .bf16) (v359 : Vec F S256x512 .bf16) (v360 : Vec F S256x512 .bf16) (v447 : FVec F S512x128 .f32) (v448 : FVec F S512x64 .f32)
    {kk : (Σ' (v450 : FVec F S512x64 .f32) (v451 : FVec F S512x1 .f32) (v463 : FVec F S512x64 .f32) (v464 : FVec F S512x1 .f32) (v480 : BitVec 32), BitVec 32) → Prog (TpuEff nD τ sig (Elt F) Λ₀ .tc) α} :
    iprop(ctx q k v o K ∗ fly c 9 ∗ fly c 17 ∗ ow c 8)
      ⊢ iprop(((dne c 9 ∗ dne c 17 ∗ ow c 8
          ∗ pt c cc0_scratch1 (rows 256 512) lft (kept k c) ∗ pt c cc0_scratch3 (rows 256 512) full (got k c)) -∗ WP c (kk ⟨k0_pay81 v204 v448, k0_pay82 v205 v447, k0_pay84 v215 v358 v359 v360, k0_pay85 v216 v358 v359 v360, Scalar.addi 0#32 (Scalar.muli v2 4#32), Scalar.muli v10 2#32⟩) Q)
        -∗ WP c (onBufs (k0_part13 (F := F)) v2 v5 v8 v9 v10 v204 v205 v215 v216 v358 v359 v360 v447 v448 >>= kk) Q) := by
  dsimp only [onBufs]
  simp only [k0_part13_eq_skeleton]; unfold k0_part13_skel
  simp only [Prog.lift, Prog.bind_op, Prog.bind_ret, Prog.pure_eq_ret, Prog.bind_assoc]
  iintro ⟨#HC, H1, H2, HO⟩ Hn
  iapply (wp_arrive q k v o K c 9 8 (src := qtr1 krM) (dst := qtr1 klM) rfl (by decide) (pay_9 q k v o c)) $$ HC H1 HO
  iintro ⟨HO, H1, Hk⟩
  iapply (wp_arrive q k v o K c 17 8 (src := qtr1 klM) (dst := qtr1 krM) rfl (by decide) (pay_17 q k v o c)) $$ HC H2 HO
  iintro ⟨HO, H2, Hr⟩
  iapply Hn
  isplitl [H1]; · iexact H1
  isplitl [H2]; · iexact H2
  isplitl [HO]; · iexact HO
  isplitl [Hk]; · iexact Hk
  iexact Hr

set_option maxHeartbeats 1600000 in
theorem part14 {α : Type} {Q : α → sProp 𝕄} (v2 : BitVec 32) (v5 : BitVec 32) (v8 : BitVec 32) (v9 : BitVec 32) (v10 : BitVec 32) (v480 : BitVec 32) (v481 : BitVec 32)
    {kk : PUnit → Prog (TpuEff nD τ sig (Elt F) Λ₀ .tc) α} :
    iprop(ctx q k v o K ∗ rdy c 11 ∗ ship (py c) 19 ∗ fly c 13 ∗ fly c 21 ∗ ow c 8
        ∗ pt c cc0_scratch3 (rows 256 512) full (got k c) ∗ (∃ f, pt (py c) cc0_scratch3 (rows 768 1024) full f))
      ⊢ iprop(((fly c 11 ∗ dne c 13 ∗ dne c 21 ∗ ow c 9
          ∗ pt c cc0_scratch3 (rows 256 512) rgt (got k c)
          ∗ pt c cc0_scratch2 (rows 256 512) lft (kept v c) ∗ pt c cc0_scratch4 (rows 256 512) full (got v c)) -∗ WP c (kk ⟨⟩) Q)
        -∗ WP c (onBufs (k0_part14 (F := F)) c v2 v5 v8 v9 v10 v480 v481 >>= kk) Q) := by
  dsimp only [onBufs]
  simp only [k0_part14_eq_skeleton]; unfold k0_part14_skel
  simp only [Prog.lift, Prog.bind_op, Prog.bind_ret, Prog.pure_eq_ret, Prog.bind_assoc]
  iintro ⟨#HC, H1, Hs, H2, H3, HO, Hk, ⟨%f, Hf⟩⟩ Hn
  ihave Hk := halve $$ Hk
  icases Hk with ⟨Hk, Hkr⟩
  iapply (wp_ship q k v o K c 11 19 _ (py c) (dev9_eq c) 8 (src := qtr1 krM) (dst := qtr3 krM) (fs := got k c) (got k (py c)) set_kr1 set_kr3 rfl rfl rfl rfl
    (read_ky1 c k) rfl rfl) $$ HC H1 Hs HO Hk Hf
  iintro ⟨H1, HO⟩
  iapply (wp_arrive q k v o K c 13 9 (src := qtr1 vrM) (dst := qtr1 vlM) rfl (by decide) (pay_13 q k v o c)) $$ HC H2 HO
  iintro ⟨HO, H2, Hv⟩
  iapply (wp_arrive q k v o K c 21 9 (src := qtr1 vlM) (dst := qtr1 vrM) rfl (by decide) (pay_21 q k v o c)) $$ HC H3 HO
  iintro ⟨HO, H3, Hr⟩
  iapply Hn
  isplitl [H1]; · iexact H1
  isplitl [H2]; · iexact H2
  isplitl [H3]; · iexact H3
  isplitl [HO]; · iexact HO
  isplitl [Hkr]; · iexact Hkr
  isplitl [Hv]; · iexact Hv
  iexact Hr

set_option maxHeartbeats 1600000 in
theorem part15 {α : Type} {Q : α → sProp 𝕄} (v125 : FVec F S1024x512 .bf16) (v372 : FVec F S512x64 .f32) (v373 : FVec F S512x1 .f32) (v385 : FVec F S512x64 .f32) (v386 : FVec F S512x1 .f32)
    {kk : (Σ' (v517 : FVec F S512x512 .bf16) (v518 : Vec F S256x512 .bf16) (v519 : Vec F S256x512 .bf16) (v531 : FVec F S512x64 .f32) (v532 : FVec F S512x1 .f32) (v544 : FVec F S512x64 .f32) (v545 : FVec F S512x1 .f32) (v551 : FVec F S512x256 .bf16), FVec F S256x128 .bf16) → Prog (TpuEff nD τ sig (Elt F) Λ₀ .tc) α} :
    iprop(ctx q k v o K ∗ rdy c 15 ∗ ship (py c) 23 ∗ ow c 9
        ∗ pt c cc0_scratch3 (rows 256 512) rgt (got k c) ∗ pt c cc0_scratch4 (rows 256 512) full (got v c)
        ∗ (∃ f, pt (py c) cc0_scratch4 (rows 768 1024) full f))
      ⊢ iprop(((fly c 15 ∗ ow c 10
          ∗ pt c cc0_scratch3 (rows 256 512) rgt (got k c) ∗ pt c cc0_scratch4 (rows 256 512) rgt (got v c)) -∗ WP c (kk ⟨k0_pay86 v125, (win 256 (by decide) (got k c)), (win 256 (by decide) (got v c)), k0_pay88 v125 v372 (win 256 (by decide) (got k c)) (win 256 (by decide) (got v c)), k0_pay89 v125 v373 (win 256 (by decide) (got k c)) (win 256 (by decide) (got v c)), k0_pay91 v125 v385 (win 256 (by decide) (got k c)) (win 256 (by decide) (got v c)), k0_pay92 v125 v386 (win 256 (by decide) (got k c)) (win 256 (by decide) (got v c)), k0_pay93 v125 (win 256 (by decide) (got k c)), k0_pay94 (win 256 (by decide) (got v c))⟩) Q)
        -∗ WP c (onBufs (k0_part15 (F := F)) c v125 v372 v373 v385 v386 >>= kk) Q) := by
  dsimp only [onBufs]
  simp only [k0_part15_eq_skeleton]; unfold k0_part15_skel
  simp only [Prog.lift, Prog.bind_op, Prog.bind_ret, Prog.pure_eq_ret, Prog.bind_assoc]
  iintro ⟨#HC, H1, Hs, HO, Hkr, Hk, ⟨%f, Hf⟩⟩ Hn
  ihave Hk := halve $$ Hk
  icases Hk with ⟨Hk, Hvr⟩
  iapply (wp_ship q k v o K c 15 23 _ (py c) (dev10_eq c) 9 (src := qtr1 vrM) (dst := qtr3 vrM) (fs := got v c) (got v (py c)) set_vr1 set_vr3 rfl rfl rfl rfl
    (read_vy1 c v) rfl rfl) $$ HC H1 Hs HO Hk Hf
  iintro ⟨H1, HO⟩
  iapply (wp_fetch c (m := krM) (f := got k c) (w := win 256 (by decide) (got k c)) (le_of_eq set_kr1) (read_kr (got k c) 256 (by decide) _)) $$ Hkr
  iintro Hkr
  iapply (wp_fetch c (m := vrM) (f := got v c) (w := win 256 (by decide) (got v c)) (le_of_eq set_vr1) (read_vr (got v c) 256 (by decide) _)) $$ Hvr
  iintro Hvr
  iapply Hn
  isplitl [H1]; · iexact H1
  isplitl [HO]; · iexact HO
  isplitl [Hkr]; · iexact Hkr
  iexact Hvr

end Cert.KernelIdeal.Att
end
-- ==== Proof.RunC.lean ====
/-
# The run, the output

The heads' outputs written side by side, a half at a time, each half copied out; and the arrivals from `py c` between.
-/
module

public import proofs.«01_k».proof.Proof.RunB
public import Idealize.ShloMosaic.Lib.Pipeline.Value

@[expose] public section

noncomputable section

namespace Cert.KernelIdeal.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (q k v : Dev nD → Blk F) (K : GSem nD τ sig → ℕ) (c : Dev nD)

/-- One head's output on a device. -/
abbrev hd (R n : ℕ) (hR : R + 512 ≤ 1024) (hn : n + 64 ≤ 512) : FVec F S512x64 .bf16 :=
  headOut (kept q c) (kept k c) (kept v c) (got k c) (got v c) R n hR hn

/-- Half of the output buffer, of which the first `n` columns are written. -/
def agree (R n : ℕ) : sProp 𝕄 :=
  iprop(∃ f : Blk F, ⌜∀ i : S1024x512.Idx, R ≤ (i 0).val → (i 0).val < R + 512 → (i 1).val < n → f i = outst q k v c i⌝
    ∗ pt c cc0_scratch5 (rows R (R + 512)) full f)

theorem agree_start (R : ℕ) (f : Blk F) : (pt c cc0_scratch5 (rows R (R + 512)) full f : sProp 𝕄) ⊢ agree q k v c R 0 := by
  iintro H
  unfold agree
  iexists f
  isplitr
  · ipureintro; intro i _ _ h; exact absurd h (Nat.not_lt_zero _)
  · iexact H

theorem agree_end (R : ℕ) : (agree q k v c R 512 : sProp 𝕄) ⊢ pt c cc0_scratch5 (rows R (R + 512)) full (outst q k v c) := by
  unfold agree
  iintro ⟨%f, %h, H⟩
  have e : (pt c cc0_scratch5 (rows R (R + 512)) full f : sProp 𝕄) = pt c cc0_scratch5 (rows R (R + 512)) full (outst q k v c) :=
    pointsTo_congr (fun i hi => h i (mem_rows.mp hi).1 (mem_rows.mp hi).2 (i 1).isLt)
  iapply (Entails.of_eq e); iexact H

theorem put_set {R n : ℕ} {inb : ∀ x, (![R, n] : Fin 2 → ℕ) x + S512x64.size x ≤ S1024x512.size x} {i : S1024x512.Idx} :
    i ∈ (outM.access (Rect.unit (s := S1024x512) ![R, n] S512x64.size inb)).set
      ↔ (R ≤ (i 0).val ∧ (i 0).val < R + 512) ∧ (n ≤ (i 1).val ∧ (i 1).val < n + 64) := by
  rw [show (outM.access (Rect.unit (s := S1024x512) ![R, n] S512x64.size inb)).set = (Rect.unit (s := S1024x512) ![R, n] S512x64.size inb).set
    from View.set_slice_whole cc0_scratch5 _, Rect.mem_set_unit]
  exact Fin.forall_fin_two

/-- A load of the output buffer. -/
theorem wp_peek {R n m : ℕ} {inb : ∀ x, (![R, n] : Fin 2 → ℕ) x + S512x64.size x ≤ S1024x512.size x}
    {hl : outM.view.LoadsAt (Rect.unit (s := S1024x512) ![R, n] S512x64.size inb)}
    {α : Type} {Q : α → sProp 𝕄} {kk : Vec F S512x64 .bf16 → Prog (TpuEff nD τ sig (Elt F) Λ₀ .tc) α} :
    agree q k v c R m
      ⊢ iprop((∀ w, agree q k v c R m -∗ WP c (kk w) Q)
        -∗ WP c (.op (.load outM (Rect.unit (s := S1024x512) ![R, n] S512x64.size inb).toLoadRect hl) kk) Q) := by
  unfold agree
  iintro ⟨%f, %h, H⟩ Hk
  iapply (wp_fetch c (m := outM) (r := Rect.unit (s := S1024x512) ![R, n] S512x64.size inb) (f := f) (S := rows R (R + 512)) (fun i hi => mem_rows.mpr (put_set.mp hi).1) rfl) $$ H
  iintro H
  iapply Hk
  iexists f
  isplitr
  · ipureintro; exact h
  · iexact H

/-- A head's output written. -/
theorem wp_put {R n : ℕ} (hR : R + 512 ≤ 1024) (hn : n + 64 ≤ 512) (h0 : 512 * (R / 512) = R) (h1 : 64 * (n / 64) = n)
    {inb : ∀ x, (![R, n] : Fin 2 → ℕ) x + S512x64.size x ≤ S1024x512.size x} {w : FVec F S512x64 .bf16}
    {hx : (outM.access (Rect.unit (s := S1024x512) ![R, n] S512x64.size inb)).Stores Finset.univ}
    {hm : (Finset.univ : Finset S512x64.Idx) = Finset.univ ∨ ∀ a, (Rect.unit (s := S1024x512) ![R, n] S512x64.size inb).stride a = 1}
    {α : Type} {Q : α → sProp 𝕄} {kk : PUnit → Prog (TpuEff nD τ sig (Elt F) Λ₀ .tc) α} (hw : w = hd q k v c R n hR hn) :
    agree q k v c R n
      ⊢ iprop((agree q k v c R (n + 64) -∗ WP c (kk ⟨⟩) Q)
        -∗ WP c (.op (.store outM (Rect.unit (s := S1024x512) ![R, n] S512x64.size inb) w Finset.univ hx hm) kk) Q) := by
  unfold agree
  iintro ⟨%f, %h, H⟩ Hk
  iapply (wp_store 𝒱₀ (c : Thread nD τ) none Set.univ (m := outM) (r := Rect.unit (s := S1024x512) ![R, n] S512x64.size inb) (f := f) (S := rows R (R + 512))
    (fun i hi => mem_rows.mpr (put_set.mp (View.setOn_subset_set _ _ hi)).1)) $$ H
  iintro H
  iapply Hk
  iexists _
  isplitr
  rotate_left
  · iexact H
  ipureintro
  intro i a0 a1 a2
  by_cases hi : n ≤ (i 1).val
  · obtain ⟨j, rfl⟩ : ∃ j : S512x64.Idx, (outM.access (Rect.unit (s := S1024x512) ![R, n] S512x64.size inb)).emb j = i := by
      obtain ⟨j, -, e⟩ := Finset.mem_map.mp (put_set.mpr ⟨⟨a0, a1⟩, ⟨hi, a2⟩⟩ : i ∈ (outM.access (Rect.unit (s := S1024x512) ![R, n] S512x64.size inb)).set)
      exact ⟨j, e⟩
    refine (View.write_emb_of_mem _ _ (Finset.mem_univ j)).trans ?_
    subst hw
    refine Eq.trans rfl (outOf_at (kept q c) (kept k c) (kept v c) (got k c) (got v c) hR hn h0 h1 _ j ?_ ?_).symm
    · refine (Rect.emb_apply _ _ _).trans ?_; show R + 1 * (j 0).val = _; rw [Nat.one_mul]
    · refine (Rect.emb_apply _ _ _).trans ?_; show n + 1 * (j 1).val = _; rw [Nat.one_mul]
  · refine (View.write_of_not_mem _ _ _ (fun hm => hi (put_set.mp (View.setOn_subset_set _ _ hm)).2.1)).trans (h i a0 a1 (Nat.lt_of_not_le hi))

set_option maxHeartbeats 1600000 in
theorem part17 {α : Type} {Q : α → sProp 𝕄} (v450 : FVec F S512x64 .f32) (v451 : FVec F S512x1 .f32) (v463 : FVec F S512x64 .f32) (v464 : FVec F S512x1 .f32) (v517 : FVec F S512x512 .bf16) (v518 : Vec F S256x512 .bf16) (v519 : Vec F S256x512 .bf16) (v531 : FVec F S512x64 .f32) (v532 : FVec F S512x1 .f32) (v544 : FVec F S512x64 .f32) (v545 : FVec F S512x1 .f32) (v557 : FVec F S512x64 .f32) (v558 : FVec F S512x1 .f32) (v570 : FVec F S512x64 .f32) (v571 : FVec F S512x1 .f32) (v600 : FVec F S256x64 .bf16) (v602 : FVec F S512x256 .bf16)
    (h0 : quo v531 v532 = hd q k v c 0 0 (by decide) (by decide)) (h1 : quo v544 v545 = hd q k v c 0 64 (by decide) (by decide)) (h2 : quo v557 v558 = hd q k v c 0 128 (by decide) (by decide))
    {kk : (Σ' (v609 : FVec F S512x64 .f32) (v610 : FVec F S512x1 .f32) (v622 : FVec F S512x64 .f32) (v623 : FVec F S512x1 .f32), FVec F S512x64 .bf16) → Prog (TpuEff nD τ sig (Elt F) Λ₀ .tc) α} :
    iprop(ctx q k v (outst q k v) K ∗ agree q k v c 0 0)
      ⊢ iprop(((agree q k v c 0 192) -∗ WP c (kk ⟨k0_pay110 v450 v600 v602, k0_pay111 v451 v600 v602, k0_pay113 v463 v517 v518 v519, k0_pay114 v464 v517 v518 v519, k0_pay118 v570 v571⟩) Q)
        -∗ WP c (onBufs (k0_part17 (F := F)) v450 v451 v463 v464 v517 v518 v519 v531 v532 v544 v545 v557 v558 v570 v571 v600 v602 >>= kk) Q) := by
  dsimp only [onBufs]
  simp only [k0_part17_eq_skeleton]; unfold k0_part17_skel
  simp only [Prog.lift, Prog.bind_op, Prog.bind_ret, Prog.pure_eq_ret, Prog.bind_assoc]
  iintro ⟨#HC, HA⟩ Hn
  iapply (wp_peek q k v c (R := 0) (n := 0) (m := 0)) $$ HA
  iintro %w HA
  iapply (wp_put q k v c (R := 0) (n := 0) (by decide) (by decide) rfl rfl ((shapeCast_self _ _).trans h0)) $$ HA
  iintro HA
  iapply (wp_peek q k v c (R := 0) (n := 64) (m := 64)) $$ HA
  iintro %w HA
  iapply (wp_put q k v c (R := 0) (n := 64) (by decide) (by decide) rfl rfl ((shapeCast_self _ _).trans h1)) $$ HA
  iintro HA
  iapply (wp_peek q k v c (R := 0) (n := 128) (m := 128)) $$ HA
  iintro %w HA
  iapply (wp_put q k v c (R := 0) (n := 128) (by decide) (by decide) rfl rfl ((shapeCast_self _ _).trans h2)) $$ HA
  iintro HA
  iapply (wp_peek q k v c (R := 0) (n := 192) (m := 192)) $$ HA
  iintro %w HA
  iapply Hn; iexact HA

set_option maxHeartbeats 1600000 in
theorem part18 {α : Type} {Q : α → sProp 𝕄} (v583 : FVec F S512x64 .f32) (v584 : FVec F S512x1 .f32) (v596 : FVec F S512x64 .f32) (v597 : FVec F S512x1 .f32) (v609 : FVec F S512x64 .f32) (v610 : FVec F S512x1 .f32) (v622 : FVec F S512x64 .f32) (v623 : FVec F S512x1 .f32) (v644 : FVec F S512x64 .bf16)
    (h3 : v644 = hd q k v c 0 192 (by decide) (by decide)) (h4 : quo v583 v584 = hd q k v c 0 256 (by decide) (by decide)) (h5 : quo v596 v597 = hd q k v c 0 320 (by decide) (by decide)) (h6 : quo v609 v610 = hd q k v c 0 384 (by decide) (by decide)) (h7 : quo v622 v623 = hd q k v c 0 448 (by decide) (by decide))
    {kk : PUnit → Prog (TpuEff nD τ sig (Elt F) Λ₀ .tc) α} :
    iprop(ctx q k v (outst q k v) K ∗ agree q k v c 0 192 ∗ rdy c 6 ∗ fly c 10 ∗ ow c 10 ∗ (∃ f, pt c main_v4 (rows (lo c) (lo c + 512)) full f))
      ⊢ iprop(((fly c 6 ∗ dne c 10 ∗ ow c 10 ∗ pt c cc0_scratch3 (rows 0 256) lft (got k c)) -∗ WP c (kk ⟨⟩) Q)
        -∗ WP c (onBufs (k0_part18 (F := F)) c v583 v584 v596 v597 v609 v610 v622 v623 v644 >>= kk) Q) := by
  dsimp only [onBufs]
  simp only [k0_part18_eq_skeleton]; unfold k0_part18_skel
  simp only [Prog.lift, Prog.bind_op, Prog.bind_ret, Prog.pure_eq_ret, Prog.bind_assoc]
  iintro ⟨#HC, HA, H6, H1, HO, ⟨%f, Hf⟩⟩ Hn
  iapply (wp_put q k v c (R := 0) (n := 192) (by decide) (by decide) rfl rfl ((shapeCast_self _ _).trans h3)) $$ HA
  iintro HA
  iapply (wp_peek q k v c (R := 0) (n := 256) (m := 256)) $$ HA
  iintro %w HA
  iapply (wp_put q k v c (R := 0) (n := 256) (by decide) (by decide) rfl rfl ((shapeCast_self _ _).trans h4)) $$ HA
  iintro HA
  iapply (wp_peek q k v c (R := 0) (n := 320) (m := 320)) $$ HA
  iintro %w HA
  iapply (wp_put q k v c (R := 0) (n := 320) (by decide) (by decide) rfl rfl ((shapeCast_self _ _).trans h5)) $$ HA
  iintro HA
  iapply (wp_peek q k v c (R := 0) (n := 384) (m := 384)) $$ HA
  iintro %w HA
  iapply (wp_put q k v c (R := 0) (n := 384) (by decide) (by decide) rfl rfl ((shapeCast_self _ _).trans h6)) $$ HA
  iintro HA
  iapply (wp_peek q k v c (R := 0) (n := 448) (m := 448)) $$ HA
  iintro %w HA
  iapply (wp_put q k v c (R := 0) (n := 448) (by decide) (by decide) rfl rfl ((shapeCast_self _ _).trans h7)) $$ HA
  iintro HA
  ihave HA := (agree_end q k v c 0) $$ HA
  iapply (wp_local q k v (outst q k v) K c 6 (src := bufLo outM) (dst := argLo c v4M) (fs := outst q k v c) (kept (outst q k v) c) set_outLo (set_v4Lo c) rfl (read_outLo c (outst q k v)) rfl) $$ HC H6 HA Hf
  iintro H6
  iapply (wp_arrive q k v (outst q k v) K c 10 10 (src := qtr2 krM) (dst := qtr0 krM) rfl (by decide) (pay_10 q k v (outst q k v) c)) $$ HC H1 HO
  iintro ⟨HO, H1, Hk⟩
  iapply Hn
  isplitl [H6]; · iexact H6
  isplitl [H1]; · iexact H1
  isplitl [HO]; · iexact HO
  iexact Hk

set_option maxHeartbeats 1600000 in
theorem part19 {α : Type} {Q : α → sProp 𝕄} (v2 : BitVec 32) (v8 : BitVec 32) (v10 : BitVec 32) (v125 : FVec F S1024x512 .bf16)
    {kk : (Σ' (v704 : FVec F S512x512 .bf16) (v705 : Vec F S256x512 .bf16), Vec F S256x512 .bf16) → Prog (TpuEff nD τ sig (Elt F) Λ₀ .tc) α} :
    iprop(ctx q k v (outst q k v) K ∗ fly c 18 ∗ fly c 14 ∗ fly c 22 ∗ ow c 10)
      ⊢ iprop(((dne c 18 ∗ dne c 14 ∗ dne c 22 ∗ ow c 10
          ∗ pt c cc0_scratch3 (rows 512 768) full (got k c) ∗ pt c cc0_scratch4 (rows 0 256) lft (got v c) ∗ pt c cc0_scratch4 (rows 512 768) full (got v c)) -∗ WP c (kk ⟨k0_pay124 v125, (win 512 (by decide) (got k c)), (win 512 (by decide) (got v c))⟩) Q)
        -∗ WP c (onBufs (k0_part19 (F := F)) v2 v8 v10 v125 >>= kk) Q) := by
  dsimp only [onBufs]
  simp only [k0_part19_eq_skeleton]; unfold k0_part19_skel
  simp only [Prog.lift, Prog.bind_op, Prog.bind_ret, Prog.pure_eq_ret, Prog.bind_assoc]
  iintro ⟨#HC, H1, H2, H3, HO⟩ Hn
  iapply (wp_arrive q k v (outst q k v) K c 18 10 (src := qtr0 krM) (dst := qtr2 krM) rfl (by decide) (pay_18 q k v (outst q k v) c)) $$ HC H1 HO
  iintro ⟨HO, H1, Hk⟩
  iapply (wp_arrive q k v (outst q k v) K c 14 10 (src := qtr2 vrM) (dst := qtr0 vrM) rfl (by decide) (pay_14 q k v (outst q k v) c)) $$ HC H2 HO
  iintro ⟨HO, H2, Hl⟩
  iapply (wp_arrive q k v (outst q k v) K c 22 10 (src := qtr0 vrM) (dst := qtr2 vrM) rfl (by decide) (pay_22 q k v (outst q k v) c)) $$ HC H3 HO
  iintro ⟨HO, H3, Hv⟩
  iapply (wp_fetch c (m := krM) (f := got k c) (w := win 512 (by decide) (got k c)) (le_of_eq set_kr2) (read_kr (got k c) 512 (by decide) _)) $$ Hk
  iintro Hk
  iapply (wp_fetch c (m := vrM) (f := got v c) (w := win 512 (by decide) (got v c)) (le_of_eq set_vr2) (read_vr (got v c) 512 (by decide) _)) $$ Hv
  iintro Hv
  iapply Hn
  isplitl [H1]; · iexact H1
  isplitl [H2]; · iexact H2
  isplitl [H3]; · iexact H3
  isplitl [HO]; · iexact HO
  isplitl [Hk]; · iexact Hk
  isplitl [Hl]; · iexact Hl
  iexact Hv

set_option maxHeartbeats 1600000 in
theorem part22 {α : Type} {Q : α → sProp 𝕄} (v2 : BitVec 32) (v8 : BitVec 32) (v10 : BitVec 32) (v304 : FVec F S512x64 .f32) (v305 : FVec F S512x1 .f32) (v800 : FVec F S256x64 .bf16) (v803 : FVec F S512x256 .bf16) (cst_388 : F .bf16)
    {kk : (Σ' (v809 : FVec F S512x64 .f32) (v810 : FVec F S512x1 .f32) (v830 : BitVec 32), BitVec 32) → Prog (TpuEff nD τ sig (Elt F) Λ₀ .tc) α} :
    iprop(ctx q k v (outst q k v) K ∗ fly c 11 ∗ fly c 19 ∗ fly c 15 ∗ ow c 10)
      ⊢ iprop(((dne c 11 ∗ dne c 19 ∗ dne c 15 ∗ ow c 10
          ∗ pt c cc0_scratch3 (rows 256 512) lft (got k c) ∗ pt c cc0_scratch3 (rows 768 1024) full (got k c) ∗ pt c cc0_scratch4 (rows 256 512) lft (got v c)) -∗ WP c (kk ⟨k0_pay149 v304 v800 v803 cst_388, k0_pay150 v305 v800 v803 cst_388, Scalar.addi 0#32 (Scalar.muli v2 4#32), 2#32⟩) Q)
        -∗ WP c (onBufs (k0_part22 (F := F)) v2 v8 v10 v304 v305 v800 v803 cst_388 >>= kk) Q) := by
  dsimp only [onBufs]
  simp only [k0_part22_eq_skeleton]; unfold k0_part22_skel
  simp only [Prog.lift, Prog.bind_op, Prog.bind_ret, Prog.pure_eq_ret, Prog.bind_assoc]
  iintro ⟨#HC, H1, H2, H3, HO⟩ Hn
  iapply (wp_arrive q k v (outst q k v) K c 11 10 (src := qtr3 krM) (dst := qtr1 krM) rfl (by decide) (pay_11 q k v (outst q k v) c)) $$ HC H1 HO
  iintro ⟨HO, H1, Hl⟩
  iapply (wp_arrive q k v (outst q k v) K c 19 10 (src := qtr1 krM) (dst := qtr3 krM) rfl (by decide) (pay_19 q k v (outst q k v) c)) $$ HC H2 HO
  iintro ⟨HO, H2, Hk⟩
  iapply (wp_arrive q k v (outst q k v) K c 15 10 (src := qtr3 vrM) (dst := qtr1 vrM) rfl (by decide) (pay_15 q k v (outst q k v) c)) $$ HC H3 HO
  iintro ⟨HO, H3, Hv⟩
  iapply Hn
  isplitl [H1]; · iexact H1
  isplitl [H2]; · iexact H2
  isplitl [H3]; · iexact H3
  isplitl [HO]; · iexact HO
  isplitl [Hl]; · iexact Hl
  isplitl [Hk]; · iexact Hk
  iexact Hv

set_option maxHeartbeats 1600000 in
theorem part23 {α : Type} {Q : α → sProp 𝕄} (v8 : BitVec 32) (v10 : BitVec 32) (v125 : FVec F S1024x512 .bf16) (v718 : FVec F S512x64 .f32) (v719 : FVec F S512x1 .f32) (v731 : FVec F S512x64 .f32) (v732 : FVec F S512x1 .f32) (v830 : BitVec 32) (c2_i32_418 : BitVec 32)
    {kk : (Σ' (v839 : FVec F S512x512 .bf16) (v840 : Vec F S256x512 .bf16) (v841 : Vec F S256x512 .bf16) (v853 : FVec F S512x64 .f32) (v854 : FVec F S512x1 .f32) (v866 : FVec F S512x64 .f32) (v867 : FVec F S512x1 .f32) (v870 : FVec F S256x64 .bf16), FVec F S512x256 .bf16) → Prog (TpuEff nD τ sig (Elt F) Λ₀ .tc) α} :
    iprop(ctx q k v (outst q k v) K ∗ fly c 23 ∗ ow c 10 ∗ pt c cc0_scratch3 (rows 768 1024) full (got k c))
      ⊢ iprop(((dne c 23 ∗ ow c 10
          ∗ pt c cc0_scratch3 (rows 768 1024) full (got k c) ∗ pt c cc0_scratch4 (rows 768 1024) full (got v c)) -∗ WP c (kk ⟨k0_pay151 v125, (win 768 (by decide) (got k c)), (win 768 (by decide) (got v c)), k0_pay153 v125 v718 (win 768 (by decide) (got k c)) (win 768 (by decide) (got v c)), k0_pay154 v125 v719 (win 768 (by decide) (got k c)) (win 768 (by decide) (got v c)), k0_pay156 v125 v731 (win 768 (by decide) (got k c)) (win 768 (by decide) (got v c)), k0_pay157 v125 v732 (win 768 (by decide) (got k c)) (win 768 (by decide) (got v c)), k0_pay158 (win 768 (by decide) (got v c)), k0_pay159 v125 (win 768 (by decide) (got k c))⟩) Q)
        -∗ WP c (onBufs (k0_part23 (F := F)) v8 v10 v125 v718 v719 v731 v732 v830 c2_i32_418 >>= kk) Q) := by
  dsimp only [onBufs]
  simp only [k0_part23_eq_skeleton]; unfold k0_part23_skel
  simp only [Prog.lift, Prog.bind_op, Prog.bind_ret, Prog.pure_eq_ret, Prog.bind_assoc]
  iintro ⟨#HC, H1, HO, Hk⟩ Hn
  iapply (wp_arrive q k v (outst q k v) K c 23 10 (src := qtr1 vrM) (dst := qtr3 vrM) rfl (by decide) (pay_23 q k v (outst q k v) c)) $$ HC H1 HO
  iintro ⟨HO, H1, Hv⟩
  iapply (wp_fetch c (m := krM) (f := got k c) (w := win 768 (by decide) (got k c)) (le_of_eq set_kr3) (read_kr (got k c) 768 (by decide) _)) $$ Hk
  iintro Hk
  iapply (wp_fetch c (m := vrM) (f := got v c) (w := win 768 (by decide) (got v c)) (le_of_eq set_vr3) (read_vr (got v c) 768 (by decide) _)) $$ Hv
  iintro Hv
  iapply Hn
  isplitl [H1]; · iexact H1
  isplitl [HO]; · iexact HO
  isplitl [Hk]; · iexact Hk
  iexact Hv

set_option maxHeartbeats 1600000 in
theorem part25 {α : Type} {Q : α → sProp 𝕄} (v796 : FVec F S512x64 .f32) (v797 : FVec F S512x1 .f32) (v809 : FVec F S512x64 .f32) (v810 : FVec F S512x1 .f32) (v839 : FVec F S512x512 .bf16) (v840 : Vec F S256x512 .bf16) (v841 : Vec F S256x512 .bf16) (v853 : FVec F S512x64 .f32) (v854 : FVec F S512x1 .f32) (v866 : FVec F S512x64 .f32) (v867 : FVec F S512x1 .f32) (v879 : FVec F S512x64 .f32) (v880 : FVec F S512x1 .f32) (v892 : FVec F S512x64 .f32) (v893 : FVec F S512x1 .f32) (v920 : FVec F S512x64 .bf16) (v921 : FVec F S256x64 .bf16) (v922 : FVec F S256x64 .bf16)
    (h0 : quo v853 v854 = hd q k v c 512 0 (by decide) (by decide)) (h1 : quo v866 v867 = hd q k v c 512 64 (by decide) (by decide)) (h2 : quo v879 v880 = hd q k v c 512 128 (by decide) (by decide))
    {kk : (Σ' (v931 : FVec F S512x64 .f32) (v932 : FVec F S512x1 .f32) (v944 : FVec F S512x64 .f32) (v945 : FVec F S512x1 .f32), FVec F S512x64 .bf16) → Prog (TpuEff nD τ sig (Elt F) Λ₀ .tc) α} :
    iprop(ctx q k v (outst q k v) K ∗ agree q k v c 512 0)
      ⊢ iprop(((agree q k v c 512 192) -∗ WP c (kk ⟨k0_pay176 v796 v920 v921 v922, k0_pay177 v797 v920 v921 v922, k0_pay179 v809 v839 v840 v841, k0_pay180 v810 v839 v840 v841, k0_pay184 v892 v893⟩) Q)
        -∗ WP c (onBufs (k0_part25 (F := F)) v796 v797 v809 v810 v839 v840 v841 v853 v854 v866 v867 v879 v880 v892 v893 v920 v921 v922 >>= kk) Q) := by
  dsimp only [onBufs]
  simp only [k0_part25_eq_skeleton]; unfold k0_part25_skel
  simp only [Prog.lift, Prog.bind_op, Prog.bind_ret, Prog.pure_eq_ret, Prog.bind_assoc]
  iintro ⟨#HC, HA⟩ Hn
  iapply (wp_peek q k v c (R := 512) (n := 0) (m := 0)) $$ HA
  iintro %w HA
  iapply (wp_put q k v c (R := 512) (n := 0) (by decide) (by decide) rfl rfl ((shapeCast_self _ _).trans h0)) $$ HA
  iintro HA
  iapply (wp_peek q k v c (R := 512) (n := 64) (m := 64)) $$ HA
  iintro %w HA
  iapply (wp_put q k v c (R := 512) (n := 64) (by decide) (by decide) rfl rfl ((shapeCast_self _ _).trans h1)) $$ HA
  iintro HA
  iapply (wp_peek q k v c (R := 512) (n := 128) (m := 128)) $$ HA
  iintro %w HA
  iapply (wp_put q k v c (R := 512) (n := 128) (by decide) (by decide) rfl rfl ((shapeCast_self _ _).trans h2)) $$ HA
  iintro HA
  iapply Hn; iexact HA

set_option maxHeartbeats 1600000 in
theorem part26 {α : Type} {Q : α → sProp 𝕄} (v905 : FVec F S512x64 .f32) (v906 : FVec F S512x1 .f32) (v918 : FVec F S512x64 .f32) (v919 : FVec F S512x1 .f32) (v931 : FVec F S512x64 .f32) (v932 : FVec F S512x1 .f32) (v944 : FVec F S512x64 .f32) (v945 : FVec F S512x1 .f32) (v966 : FVec F S512x64 .bf16)
    (h3 : v966 = hd q k v c 512 192 (by decide) (by decide)) (h4 : quo v905 v906 = hd q k v c 512 256 (by decide) (by decide)) (h5 : quo v918 v919 = hd q k v c 512 320 (by decide) (by decide)) (h6 : quo v931 v932 = hd q k v c 512 384 (by decide) (by decide)) (h7 : quo v944 v945 = hd q k v c 512 448 (by decide) (by decide))
    {kk : PUnit → Prog (TpuEff nD τ sig (Elt F) Λ₀ .tc) α} :
    iprop(ctx q k v (outst q k v) K ∗ agree q k v c 512 192 ∗ rdy c 7 ∗ fly c 6 ∗ ow c 10 ∗ (∃ f, pt c main_v4 (rows (hi c) (hi c + 512)) full f))
      ⊢ iprop(((fly c 7 ∗ dne c 6 ∗ ow c 10
          ∗ pt c main_v4 (rows (lo c) (lo c + 512)) full (kept (outst q k v) c) ∗ pt c cc0_scratch5 (rows 0 512) full (outst q k v c)) -∗ WP c (kk ⟨⟩) Q)
        -∗ WP c (onBufs (k0_part26 (F := F)) c v905 v906 v918 v919 v931 v932 v944 v945 v966 >>= kk) Q) := by
  dsimp only [onBufs]
  simp only [k0_part26_eq_skeleton]; unfold k0_part26_skel
  simp only [Prog.lift, Prog.bind_op, Prog.bind_ret, Prog.pure_eq_ret, Prog.bind_assoc]
  iintro ⟨#HC, HA, H7, H6, HO, ⟨%f, Hf⟩⟩ Hn
  iapply (wp_peek q k v c (R := 512) (n := 192) (m := 192)) $$ HA
  iintro %w HA
  iapply (wp_put q k v c (R := 512) (n := 192) (by decide) (by decide) rfl rfl ((shapeCast_self _ _).trans h3)) $$ HA
  iintro HA
  iapply (wp_peek q k v c (R := 512) (n := 256) (m := 256)) $$ HA
  iintro %w HA
  iapply (wp_put q k v c (R := 512) (n := 256) (by decide) (by decide) rfl rfl ((shapeCast_self _ _).trans h4)) $$ HA
  iintro HA
  iapply (wp_peek q k v c (R := 512) (n := 320) (m := 320)) $$ HA
  iintro %w HA
  iapply (wp_put q k v c (R := 512) (n := 320) (by decide) (by decide) rfl rfl ((shapeCast_self _ _).trans h5)) $$ HA
  iintro HA
  iapply (wp_peek q k v c (R := 512) (n := 384) (m := 384)) $$ HA
  iintro %w HA
  iapply (wp_put q k v c (R := 512) (n := 384) (by decide) (by decide) rfl rfl ((shapeCast_self _ _).trans h6)) $$ HA
  iintro HA
  iapply (wp_peek q k v c (R := 512) (n := 448) (m := 448)) $$ HA
  iintro %w HA
  iapply (wp_put q k v c (R := 512) (n := 448) (by decide) (by decide) rfl rfl ((shapeCast_self _ _).trans h7)) $$ HA
  iintro HA
  ihave HA := (agree_end q k v c 512) $$ HA
  iapply (wp_local q k v (outst q k v) K c 7 (src := bufHi outM) (dst := argHi c v4M) (fs := outst q k v c) (kept (outst q k v) c) set_outHi (set_v4Hi c) rfl (read_outHi c (outst q k v)) rfl) $$ HC H7 HA Hf
  iintro H7
  iapply (wp_arrive q k v (outst q k v) K c 6 10 (src := bufLo outM) (dst := argLo c v4M) rfl (by decide) (pay_6 q k v (outst q k v) c)) $$ HC H6 HO
  iintro ⟨HO, H6, ⟨Ho, Hb⟩⟩
  iapply Hn
  isplitl [H7]; · iexact H7
  isplitl [H6]; · iexact H6
  isplitl [HO]; · iexact HO
  isplitl [Ho]; · iexact Ho
  iexact Hb

end Cert.KernelIdeal.Att
end
-- ==== Proof.Body.lean ====
/-
# The run, whole

The parts one after another: from the buffers, the cells at round 0 and what the device owes, to the output's rows at
their places in the result and every cell done.
-/
module

public import proofs.«01_k».proof.Proof.RunC

@[expose] public section

noncomputable section

namespace Cert.KernelIdeal.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (q k v : Dev nD → Blk F) (K : GSem nD τ sig → ℕ) (c : Dev nD)

/-- What a device starts from. -/
def start : sProp 𝕄 :=
  iprop((rdy c 0 ∗ rdy c 1 ∗ rdy c 2 ∗ rdy c 3 ∗ rdy c 4 ∗ rdy c 5 ∗ rdy c 6 ∗ rdy c 7)
    ∗ (rdy c 8 ∗ rdy c 9 ∗ rdy c 10 ∗ rdy c 11 ∗ rdy c 12 ∗ rdy c 13 ∗ rdy c 14 ∗ rdy c 15)
    ∗ (fly c 16 ∗ fly c 17 ∗ fly c 18 ∗ fly c 19 ∗ fly c 20 ∗ fly c 21 ∗ fly c 22 ∗ fly c 23)
    ∗ (reached ER (dCell c 16) 0 ∗ reached ER (dCell c 17) 0 ∗ reached ER (dCell c 18) 0 ∗ reached ER (dCell c 19) 0
      ∗ reached ER (dCell c 20) 0 ∗ reached ER (dCell c 21) 0 ∗ reached ER (dCell c 22) 0 ∗ reached ER (dCell c 23) 0)
    ∗ (dutyTok ER (dCell (px c) 16) 0 false ∗ dutyTok ER (dCell (px c) 17) 0 false ∗ dutyTok ER (dCell (px c) 20) 0 false ∗ dutyTok ER (dCell (px c) 21) 0 false)
    ∗ (dutyTok ER (dCell (py c) 18) 0 false ∗ dutyTok ER (dCell (py c) 19) 0 false ∗ dutyTok ER (dCell (py c) 22) 0 false ∗ dutyTok ER (dCell (py c) 23) 0 false)
    ∗ (dutyTok ER (barCell (px c)) 0 false ∗ reached ER (barCell (px c)) 0 ∗ dutyTok ER (barCell (py c)) 0 true ∗ reached ER (barCell (py c)) 0)
    ∗ atPos ER (barCell c) 0 ∅ 0 ∗ cred (tallyAt (barCell c) () 2) ∗ ow c 0)

/-- The region's buffers at the start. -/
def before : sProp 𝕄 :=
  iprop(pt c main_v1 Finset.univ full (q c) ∗ pt c main_v2 Finset.univ full (k c) ∗ pt c main_v3 Finset.univ full (v c)
    ∗ (∃ f, pt c main_v4 Finset.univ full f)
    ∗ (∃ f, pt c cc0_scratch0 Finset.univ full f) ∗ (∃ f, pt c cc0_scratch1 Finset.univ full f) ∗ (∃ f, pt c cc0_scratch2 Finset.univ full f)
    ∗ (∃ f, pt c cc0_scratch3 Finset.univ full f) ∗ (∃ f, pt c cc0_scratch4 Finset.univ full f) ∗ (∃ f, pt c cc0_scratch5 Finset.univ full f))

/-- And at the end. -/
def after : sProp 𝕄 :=
  iprop(pt c main_v1 Finset.univ full (q c) ∗ pt c main_v2 Finset.univ full (k c) ∗ pt c main_v3 Finset.univ full (v c)
    ∗ pt c main_v4 Finset.univ full (kept (outst q k v) c)
    ∗ (∃ f, pt c cc0_scratch0 Finset.univ full f) ∗ (∃ f, pt c cc0_scratch1 Finset.univ full f) ∗ (∃ f, pt c cc0_scratch2 Finset.univ full f)
    ∗ (∃ f, pt c cc0_scratch3 Finset.univ full f) ∗ (∃ f, pt c cc0_scratch4 Finset.univ full f) ∗ (∃ f, pt c cc0_scratch5 Finset.univ full f))

/-- Every cell done, nothing owed. -/
def finish : sProp 𝕄 :=
  iprop((dne c 0 ∗ dne c 1 ∗ dne c 2 ∗ dne c 3 ∗ dne c 4 ∗ dne c 5 ∗ dne c 6 ∗ dne c 7)
    ∗ (dne c 8 ∗ dne c 9 ∗ dne c 10 ∗ dne c 11 ∗ dne c 12 ∗ dne c 13 ∗ dne c 14 ∗ dne c 15)
    ∗ (dne c 16 ∗ dne c 17 ∗ dne c 18 ∗ dne c 19 ∗ dne c 20 ∗ dne c 21 ∗ dne c 22 ∗ dne c 23)
    ∗ atPos ER (barCell c) 1 ∅ 0 ∗ ow c 10)

/-- A buffer held with any contents, in its two halves. -/
theorem any_part {b : Ref sig .tc} {I J S : Finset (Idx ((c : Thread nD τ).loc b))} (hu : I ∪ J = S) (hd : Disjoint I J) :
    (iprop(∃ f, pt c b S full f) : sProp 𝕄) ⊢ iprop((∃ f, pt c b I full f) ∗ (∃ f, pt c b J full f)) := by
  iintro ⟨%f, H⟩
  ihave H := (part hu hd) $$ H
  icases H with ⟨H1, H2⟩
  isplitl [H1]
  · iexists f; iexact H1
  · iexists f; iexact H2

set_option maxHeartbeats 4000000 in
theorem body {Q : PUnit → sProp 𝕄} :
    iprop(ctx q k v (outst q k v) K ∗ start c ∗ before q k v c)
      ⊢ iprop(((finish c ∗ after q k v c) -∗ |={Set.univ}[frame]=> Q ⟨⟩) -∗ WP c (onBufs (cc0_body (F := F))) Q) := by
  unfold start before
  dsimp only [onBufs]
  rw [cc0_body_eq_skeleton]; unfold cc0_body_skel
  iintro ⟨#HC, ⟨⟨R0, R1, R2, R3, R4, R5, R6, R7⟩, ⟨R8, R9, R10, R11, R12, R13, R14, R15⟩, ⟨Y16, Y17, Y18, Y19, Y20, Y21, Y22, Y23⟩,
    ⟨#E16, #E17, #E18, #E19, #E20, #E21, #E22, #E23⟩, ⟨T16, T17, T20, T21⟩, ⟨T18, T19, T22, T23⟩, ⟨Tx, #Ex, Ty, #Ey⟩, Hat, Hcr, HO⟩,
    ⟨Hq, Hk, Hv, Ho, B0, B1, B2, B3, B4, B5⟩⟩ Hn
  ihave B0 := (any_part c halves_u halves_d) $$ B0
  icases B0 with ⟨B0l, B0h⟩
  ihave B1 := (any_part c halves_u halves_d) $$ B1
  icases B1 with ⟨B1l, B1h⟩
  ihave B2 := (any_part c halves_u halves_d) $$ B2
  icases B2 with ⟨B2l, B2h⟩
  ihave B3 := (any_part c halves_u halves_d) $$ B3
  icases B3 with ⟨B3l, B3h⟩
  ihave B4 := (any_part c halves_u halves_d) $$ B4
  icases B4 with ⟨B4l, B4h⟩
  ihave Ho := (any_part c (args_union c) (args_disjoint c)) $$ Ho
  icases Ho with ⟨Hol, Hoh⟩
  ihave Hv := (part (args_union c) (args_disjoint c)) $$ Hv
  icases Hv with ⟨Hvl, Hvh⟩
  iapply (part1 q k v (outst q k v) K c) $$ [R0 R1 R2 Hk Hvl B1l B1h B2l]
  · iframe # ∗
  iintro %w2 %w5 %w8 %w9 %w10 ⟨Y0, Y1, Y2⟩
  ihave HX : landX c $$ [B3l B4l]
  · unfold landX; iframe # ∗
  ihave HY : landY c $$ [B3h B4h]
  · unfold landY; iframe # ∗
  iapply (part2 q k v (outst q k v) K c w2 w5 w8 w9 w10) $$ [R3 R4 R5 Y0 Hvh Hq B2h B0l B0h HX HY Tx Ty Hat Hcr HO]
  · iframe # ∗
  iintro ⟨Y3, Y4, Y5, D0, HO, Hat, HX, HY, Hkl, Hk1⟩
  unfold landX landY
  icases HX with ⟨X3, X4, #F16, #F17, #F20, #F21⟩
  icases HY with ⟨Z3, Z4, #F18, #F19, #F22, #F23⟩
  ihave X3 := (any_part (px c) lower_u lower_d) $$ X3
  icases X3 with ⟨X30, X31⟩
  ihave Z3 := (any_part (py c) upper_u upper_d) $$ Z3
  icases Z3 with ⟨Z30, Z31⟩
  ihave Z4 := (any_part (py c) upper_u upper_d) $$ Z4
  icases Z4 with ⟨Z40, Z41⟩
  ihave S16 : ship (px c) 16 $$ [T16]
  · unfold ship; iframe # ∗
  ihave S17 : ship (px c) 17 $$ [T17]
  · unfold ship; iframe # ∗
  ihave S20 : ship (px c) 20 $$ [T20]
  · unfold ship; iframe # ∗
  ihave S21 : ship (px c) 21 $$ [T21]
  · unfold ship; iframe # ∗
  ihave S18 : ship (py c) 18 $$ [T18]
  · unfold ship; iframe # ∗
  ihave S19 : ship (py c) 19 $$ [T19]
  · unfold ship; iframe # ∗
  ihave S22 : ship (py c) 22 $$ [T22]
  · unfold ship; iframe # ∗
  ihave S23 : ship (py c) 23 $$ [T23]
  · unfold ship; iframe # ∗
  iapply (part3 q k v (outst q k v) K c w5 w8 w9) $$ [Y1 Y2 Y3 R8 S16 HO Hkl X30]
  · iframe # ∗
  iintro ⟨D1, D2, D3, Y8, HO, Hkr, Hkl1, Hkl2, Hvl, Hvh, Hk2, Hv⟩
  iapply (part4 q k v (outst q k v) K c w5 w8 w9) $$ [R12 R9 R13 S20 S17 S21 HO Hkl1 Hvl Hvh X31 X4]
  · iframe # ∗
  iintro ⟨Y12, Y9, Y13, HO, Hvr, Hvl2⟩
  iapply (part5 q k v (outst q k v) K c) $$ [Y4 Y5 HO Hkr Hvr]
  · iframe # ∗
  iintro ⟨D4, D5, HO, Hkr, Hvr, Hq0, Hq⟩
  dsimp only
  simp only [k0_part6_eq_skeleton]; unfold k0_part6_skel; simp only [Prog.pure_eq_ret, Prog.bind_ret]
  simp only [k0_part7_eq_skeleton]; unfold k0_part7_skel; simp only [Prog.pure_eq_ret, Prog.bind_ret]
  simp only [k0_part8_eq_skeleton]; unfold k0_part8_skel; simp only [Prog.pure_eq_ret, Prog.bind_ret]
  iapply (part9 q k v (outst q k v) K c w2 w5 w8 w9 w10 _ _ _) $$ [Y8 Y16 HO]
  · iframe # ∗
  iintro ⟨D8, D16, HO, Hkl0, Kr0⟩
  iapply (part10 q k v (outst q k v) K c w2 w5 w8 w9 w10) $$ [R10 S18 Y12 Y20 HO Kr0 Z30]
  · iframe # ∗
  iintro ⟨Y10, D12, D20, HO, Kr0, Hvl0, Vr0⟩
  iapply (part11 q k v (outst q k v) K c _ _ _ _ _ _ _) $$ [R14 S22 HO Kr0 Vr0 Z40]
  · iframe # ∗
  iintro ⟨Y14, HO, Kr0, Vr0⟩
  dsimp only
  simp only [k0_part12_eq_skeleton]; unfold k0_part12_skel; simp only [Prog.pure_eq_ret, Prog.bind_ret]
  iapply (part13 q k v (outst q k v) K c w2 w5 w8 w9 w10 _ _ _ _ _ _ _ _ _) $$ [Y9 Y17 HO]
  · iframe # ∗
  iintro ⟨D9, D17, HO, Hkl1, Kr1⟩
  iapply (part14 q k v (outst q k v) K c w2 w5 w8 w9 w10 _ _) $$ [R11 S19 Y13 Y21 HO Kr1 Z31]
  · iframe # ∗
  iintro ⟨Y11, D13, D21, HO, Kr1, Hvl1, Vr1⟩
  iapply (part15 q k v (outst q k v) K c _ _ _ _ _) $$ [R15 S23 HO Kr1 Vr1 Z41]
  · iframe # ∗
  iintro ⟨Y15, HO, Kr1, Vr1⟩
  dsimp only
  simp only [k0_part16_eq_skeleton]; unfold k0_part16_skel; simp only [Prog.pure_eq_ret, Prog.bind_ret]
  icases B5 with ⟨%f, B5⟩
  ihave B5 := (part halves_u halves_d) $$ B5
  icases B5 with ⟨B5l, B5h⟩
  ihave B5l := (agree_start q k v c 0 f) $$ B5l
  ihave B5h := (agree_start q k v c 512 f) $$ B5h
  iapply (part17 q k v K c _ _ _ _ _ _ _ _ _ _ _ _ _ _ _ _ _ rfl rfl rfl) $$ [B5l]
  · iframe # ∗
  iintro B5l
  dsimp only
  iapply (part18 q k v K c _ _ _ _ _ _ _ _ _ rfl rfl rfl rfl rfl) $$ [B5l R6 Y10 HO Hol]
  · iframe # ∗
  iintro ⟨Y6, D10, HO, Kl0⟩
  iapply (part19 q k v K c _ _ _ _) $$ [Y18 Y14 Y22 HO]
  · iframe # ∗
  iintro ⟨D18, D14, D22, HO, Kr2, Vl0, Vr2⟩
  dsimp only
  simp only [k0_part20_eq_skeleton]; unfold k0_part20_skel; simp only [Prog.pure_eq_ret, Prog.bind_ret]
  simp only [k0_part21_eq_skeleton]; unfold k0_part21_skel; simp only [Prog.pure_eq_ret, Prog.bind_ret]
  iapply (part22 q k v K c _ _ _ _ _ _ _ _ ) $$ [Y11 Y19 Y15 HO]
  · iframe # ∗
  iintro ⟨D11, D19, D15, HO, Kl1, Kr3, Vl1⟩
  iapply (part23 q k v K c _ _ _ _ _ _ _ _ _ ) $$ [Y23 HO Kr3]
  · iframe # ∗
  iintro ⟨D23, HO, Kr3, Vr3⟩
  dsimp only
  simp only [k0_part24_eq_skeleton]; unfold k0_part24_skel; simp only [Prog.pure_eq_ret, Prog.bind_ret]
  iapply (part25 q k v K c _ _ _ _ _ _ _ _ _ _ _ _ _ _ _ _ _ _ rfl rfl rfl) $$ [B5h]
  · iframe # ∗
  iintro B5h
  dsimp only
  iapply (part26 q k v K c _ _ _ _ _ _ _ _ _ rfl rfl rfl rfl rfl) $$ [B5h R7 Y6 HO Hoh]
  · iframe # ∗
  iintro ⟨Y7, D6, HO, Ho0, B50⟩
  simp only [Prog.lift, Prog.bind_op, Prog.bind_ret, Prog.pure_eq_ret, Prog.bind_assoc]
  iapply (wp_arrive q k v (outst q k v) K c 7 10 (src := bufHi outM) (dst := argHi c v4M) rfl (by decide) (pay_7 q k v (outst q k v) c)) $$ HC Y7 HO
  iintro ⟨HO, D7, Ho1, B51⟩
  icombine Hk1 Hk2 as Hk1
  ihave Hk1 := (fuse (args_union c) (args_disjoint c)) $$ Hk1
  icombine Ho0 Ho1 as Ho0
  ihave Ho0 := (fuse (args_union c) (args_disjoint c)) $$ Ho0
  icombine Hkl0 Hkl1 as Hkl0
  ihave Hkl0 := (fuse lower_u lower_d) $$ Hkl0
  icombine Hkl0 Hkl2 as Hkl0
  ihave Hkl0 := (fuse halves_u halves_d) $$ Hkl0
  icombine Hvl0 Hvl1 as Hvl0
  ihave Hvl0 := (fuse lower_u lower_d) $$ Hvl0
  icombine Hvl0 Hvl2 as Hvl0
  ihave Hvl0 := (fuse halves_u halves_d) $$ Hvl0
  icombine Hkl0 Hkr as Hkl0
  icombine Hvl0 Hvr as Hvl0
  icombine Kl0 Kr0 as Kl0
  icombine Kl1 Kr1 as Kl1
  icombine Kl0 Kl1 as Kl0
  ihave Kl0 := (fuse lower_u lower_d) $$ Kl0
  icombine Kr2 Kr3 as Kr2
  ihave Kr2 := (fuse upper_u upper_d) $$ Kr2
  icombine Kl0 Kr2 as Kl0
  ihave Kl0 := (fuse halves_u halves_d) $$ Kl0
  icombine Vl0 Vr0 as Vl0
  icombine Vl1 Vr1 as Vl1
  icombine Vl0 Vl1 as Vl0
  ihave Vl0 := (fuse lower_u lower_d) $$ Vl0
  icombine Vr2 Vr3 as Vr2
  ihave Vr2 := (fuse upper_u upper_d) $$ Vr2
  icombine Vl0 Vr2 as Vl0
  ihave Vl0 := (fuse halves_u halves_d) $$ Vl0
  icombine B50 B51 as B50
  ihave B50 := (fuse halves_u halves_d) $$ B50
  rw [wp_ret]
  iapply Hn
  isplitr [Hq Hk1 Hv Ho0 Hq0 Hkl0 Hvl0 Kl0 Vl0 B50]
  · unfold finish; iframe # ∗
  · unfold after
    isplitl [Hq]; · iexact Hq
    isplitl [Hk1]; · iexact Hk1
    isplitl [Hv]; · iexact Hv
    isplitl [Ho0]; · iexact Ho0
    isplitl [Hq0]; · iexists _; iexact Hq0
    isplitl [Hkl0]; · iexists _; iexact Hkl0
    isplitl [Hvl0]; · iexists _; iexact Hvl0
    isplitl [Kl0]; · iexists _; iexact Kl0
    isplitl [Vl0]; · iexists _; iexact Vl0
    iexists _; iexact B50

end Cert.KernelIdeal.Att
end
-- ==== Proof.Region.lean ====
/-
# The region among the host's operations

What a device holds when it enters the kernel and when it leaves it, the kernel's own semaphores opened at entry and
closed at exit, and `main` as its three segments: the reshapes before, the kernel, the reshape and the widening after.
-/
module

public import proofs.«01_k».proof.Proof.Body
public import proofs.«01_k».proof.Proof.Gen.KernelIdeal.Launch
public import proofs.«01_k».proof.Proof.Gen.KernelIdeal.Frame
public import Idealize.ShloMosaic.Lib.Pipeline.RegionTalk

@[expose] public section

noncomputable section

namespace Cert.KernelIdeal.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

/-! ## The kernel's semaphores, all together -/

section All

variable (q k v o : Dev nD → Blk F) (K : GSem nD τ sig → ℕ) (c : Dev nD)

/-- Something of each of the kernel's 24 semaphores, one by one. -/
theorem all24 {M : Type} [URA M] (Φ : Fin 24 → sProp M) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15
      ∗ Φ 16 ∗ Φ 17 ∗ Φ 18 ∗ Φ 19 ∗ Φ 20 ∗ Φ 21 ∗ Φ 22 ∗ Φ 23) :=
  bigSep_univ_eq_bigSepL [0, 1, 2, 3, 4, 5, 6, 7, 8, 9, 10, 11, 12, 13, 14, 15, 16, 17, 18, 19, 20, 21, 22, 23]
    (by decide) (by decide) Φ

/-- The kernel's own semaphores. -/
abbrev osem : Fin 24 → SemLoc sig := fun s => .dma (dsem s)

theorem open_one (s : Fin 24) : iprop(ctx q k v o K ∗ (openTok ER (dCell c s) ∗ semVal (dCell c s) 0))
    ⊢ (|={Set.univ}=> iprop(atPos ER (dCell c s) 0 ∅ 0 ∗ reached ER (dCell c s) 0) : sProp 𝕄) := by
  iintro ⟨#HC, Ho, Hv⟩
  imod (Rounds.cell_open ER (rd q k v o) (g := dCell c s) (Set.mem_univ (K (dCell c s)))) $$ [Ho Hv] with ⟨Hat, Hr⟩
  · isplitr
    · iapply (ctx_dma q k v o K c s); iexact HC
    isplitl [Ho] <;> iassumption
  imodintro
  isplitl [Hat] <;> iassumption

theorem open_all : iprop(ctx q k v o K ∗ (bigSep Finset.univ (fun s : Fin 24 => openTok ER (dCell c s)) ∗ Pipeline.ownSems0 osem c))
    ⊢ (|={Set.univ}=> bigSep Finset.univ (fun s : Fin 24 => iprop(atPos ER (dCell c s) 0 ∅ 0 ∗ reached ER (dCell c s) 0)) : sProp 𝕄) := by
  refine BIBase.Entails.trans ?_ (BI.bigSep_fupd _ _)
  iintro ⟨#HC, Ho, Hv⟩
  iapply (bigSep_with_persistent (R := ctx q k v o K) (Φ := fun s : Fin 24 => iprop(openTok ER (dCell c s) ∗ semVal (dCell c s) 0)) fun s _ => open_one q k v o K c s)
  isplitr
  · iexact HC
  iapply (Entails.of_eq (BI.bigSep_sep' _ _ _).symm)
  isplitl [Ho]
  · iexact Ho
  · iapply (Entails.of_eq (show (Pipeline.ownSems0 osem c : sProp 𝕄) = bigSep Finset.univ (fun s : Fin 24 => semVal (dCell c s) 0) from rfl)) $$ Hv

theorem close_one (s : Fin 24) : iprop(ctx q k v o K ∗ dne c s) ⊢ (|={Set.univ}=> semVal (dCell c s) 0 : sProp 𝕄) := by
  unfold dne
  iintro ⟨#HC, Hat⟩
  iapply (Rounds.cell_close ER (rd q k v o) (g := dCell c s) (Set.mem_univ (K (dCell c s))) id (R := 1)
    (duties_later q k v o (dCell c s)))
  isplitr
  · iapply (ctx_dma q k v o K c s); iexact HC
  · iexact Hat

theorem close_all : iprop(ctx q k v o K ∗ bigSep Finset.univ (fun s : Fin 24 => dne c s))
    ⊢ (|={Set.univ}=> Pipeline.ownSems0 osem c : sProp 𝕄) := by
  refine BIBase.Entails.trans ?_ (BI.bigSep_fupd (Finset.univ : Finset (Fin 24)) fun s => (semVal (dCell c s) 0 : sProp 𝕄))
  iintro ⟨#HC, Hd⟩
  iapply (bigSep_with_persistent (R := ctx q k v o K) (Φ := fun s : Fin 24 => dne c s) fun s _ => close_one q k v o K c s)
  isplitr
  · iexact HC
  · iexact Hd

theorem close_bar : iprop(ctx q k v o K ∗ atPos ER (barCell c) 1 ∅ 0) ⊢ (|={Set.univ}=> semVal (barCell c) 0 : sProp 𝕄) := by
  iintro ⟨#HC, Hat⟩
  iapply (Rounds.cell_close ER (rd q k v o) (g := barCell c) (Set.mem_univ (K (barCell c))) id (R := 1)
    (duties_later q k v o (barCell c)))
  isplitr
  · iapply (ctx_bar q k v o K c); iexact HC
  · iexact Hat

/-- All done: every counter back at zero. -/
theorem finish_close : iprop(ctx q k v o K ∗ finish c)
    ⊢ (|={Set.univ}=> iprop(semVal (barCell c) 0 ∗ Pipeline.ownSems0 osem c ∗ ow c 10) : sProp 𝕄) := by
  unfold finish
  iintro ⟨#HC, ⟨A0, A1, A2, A3, A4, A5, A6, A7⟩, ⟨A8, A9, A10, A11, A12, A13, A14, A15⟩,
    ⟨A16, A17, A18, A19, A20, A21, A22, A23⟩, Hat, HO⟩
  imod (close_bar q k v o K c) $$ [Hat] with Hb
  · isplitr; · iexact HC
    iexact Hat
  imod (close_all q k v o K c) $$ [A0 A1 A2 A3 A4 A5 A6 A7 A8 A9 A10 A11 A12 A13 A14 A15 A16 A17 A18 A19 A20 A21 A22 A23] with Hs
  · isplitr; · iexact HC
    rw [all24]; iframe # ∗
  imodintro
  isplitl [Hb]; · iexact Hb
  isplitl [Hs] <;> iassumption

end All

/-! ## What is dealt at launch, and what the kernel starts from -/

/-- Every invariant under one map of names, and round 0 of every barrier reached. -/
def records (q k v o : Dev nD → Blk F) (K : GSem nD τ sig → ℕ) : sProp 𝕄 :=
  iprop((bigSep (barCells ∪ dmaCells) fun g => cellInv ER (rd q k v o) (K g) g) ∗ bigSep barCells fun g => reached ER g 0)

instance records_persistent (q k v o : Dev nD → Blk F) (K : GSem nD τ sig → ℕ) : BI.Persistent (records q k v o K) := by
  unfold records; infer_instance

/-- The cells one by one: the 24 copies', then the barrier's two duties. -/
abbrev cellSem (j : Fin 26) : SemLoc sig := if h : j.val < 24 then .dma (dsem ⟨j.val, h⟩) else .reg barS
abbrev duty (j : Fin 26) : Bool := decide (j.val = 25)
/-- Whom a device pays at each. -/
def payee (j : Fin 26) (c : Dev nD) : Dev nD :=
  if j.val = 16 ∨ j.val = 17 ∨ j.val = 20 ∨ j.val = 21 ∨ j.val = 24 then px c
  else if j.val = 18 ∨ j.val = 19 ∨ j.val = 22 ∨ j.val = 23 ∨ j.val = 25 then py c
  else c
theorem payee_payee (j : Fin 26) (c : Dev nD) : payee j (payee j c) = c := by
  unfold payee
  by_cases h1 : j.val = 16 ∨ j.val = 17 ∨ j.val = 20 ∨ j.val = 21 ∨ j.val = 24
  · rw [if_pos h1, if_pos h1, px_px]
  · rw [if_neg h1, if_neg h1]
    by_cases h2 : j.val = 18 ∨ j.val = 19 ∨ j.val = 22 ∨ j.val = 23 ∨ j.val = 25
    · rw [if_pos h2, if_pos h2, py_py]
    · rw [if_neg h2, if_neg h2]

/-- The right to pay cell `j` of device `d`. -/
def tok (d : Dev nD) (j : Fin 26) : sProp 𝕄 := dutyTok ER ((d : Thread nD τ), cellSem j) 0 (duty j)

/-- The credit a device's own waits spend. -/
def credits (c : Dev nD) : sProp 𝕄 :=
  iprop(cred (tallyAt (barCell c) () 2) ∗ cred (tallyAt (dCell c 16) () (amt 16)) ∗ cred (tallyAt (dCell c 17) () (amt 17))
    ∗ cred (tallyAt (dCell c 18) () (amt 18)) ∗ cred (tallyAt (dCell c 19) () (amt 19)) ∗ cred (tallyAt (dCell c 20) () (amt 20))
    ∗ cred (tallyAt (dCell c 21) () (amt 21)) ∗ cred (tallyAt (dCell c 22) () (amt 22)) ∗ cred (tallyAt (dCell c 23) () (amt 23)))

/-- What is a device's alone. -/
def own (c : Dev nD) : sProp 𝕄 :=
  iprop(atPos ER (barCell c) 0 ∅ 0 ∗ bigSep Finset.univ (fun s : Fin 24 => openTok ER (dCell c s))
    ∗ bigSep Finset.univ (fun j : Fin 26 => tok (payee j c) j))

theorem reached_at (c : Dev nD) : (bigSep barCells fun g => (reached ER g 0 : sProp 𝕄)) ⊢ reached ER (barCell c) 0 :=
  bigSep_elim (Finset.mem_map_of_mem barEmb (Finset.mem_univ c))

theorem all26 {M : Type} [URA M] (Φ : Fin 26 → sProp M) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15
      ∗ Φ 16 ∗ Φ 17 ∗ Φ 18 ∗ Φ 19 ∗ Φ 20 ∗ Φ 21 ∗ Φ 22 ∗ Φ 23 ∗ Φ 24 ∗ Φ 25) :=
  bigSep_univ_eq_bigSepL [0, 1, 2, 3, 4, 5, 6, 7, 8, 9, 10, 11, 12, 13, 14, 15, 16, 17, 18, 19, 20, 21, 22, 23, 24, 25]
    (by decide) (by decide) Φ

/-- The rights to pay, named. -/
theorem toks_named (c : Dev nD) : (bigSep Finset.univ (fun j : Fin 26 => tok (payee j c) j) : sProp 𝕄)
    = iprop(dutyTok ER (dCell c 0) 0 false ∗ dutyTok ER (dCell c 1) 0 false ∗ dutyTok ER (dCell c 2) 0 false ∗ dutyTok ER (dCell c 3) 0 false
      ∗ dutyTok ER (dCell c 4) 0 false ∗ dutyTok ER (dCell c 5) 0 false ∗ dutyTok ER (dCell c 6) 0 false ∗ dutyTok ER (dCell c 7) 0 false
      ∗ dutyTok ER (dCell c 8) 0 false ∗ dutyTok ER (dCell c 9) 0 false ∗ dutyTok ER (dCell c 10) 0 false ∗ dutyTok ER (dCell c 11) 0 false
      ∗ dutyTok ER (dCell c 12) 0 false ∗ dutyTok ER (dCell c 13) 0 false ∗ dutyTok ER (dCell c 14) 0 false ∗ dutyTok ER (dCell c 15) 0 false
      ∗ dutyTok ER (dCell (px c) 16) 0 false ∗ dutyTok ER (dCell (px c) 17) 0 false ∗ dutyTok ER (dCell (py c) 18) 0 false ∗ dutyTok ER (dCell (py c) 19) 0 false
      ∗ dutyTok ER (dCell (px c) 20) 0 false ∗ dutyTok ER (dCell (px c) 21) 0 false ∗ dutyTok ER (dCell (py c) 22) 0 false ∗ dutyTok ER (dCell (py c) 23) 0 false
      ∗ dutyTok ER (barCell (px c)) 0 false ∗ dutyTok ER (barCell (py c)) 0 true) :=
  all26 _

/-- The kernel's start from what was dealt, its cells opened. -/
theorem start_intro (q k v o : Dev nD → Blk F) (K : GSem nD τ sig → ℕ) (c : Dev nD) :
    iprop((records q k v o K ∗ own c ∗ credits c) ∗ Pipeline.ownSems0 osem c ∗ levAts L lv)
      ⊢ (|={Set.univ}=> iprop(ctx q k v o K ∗ (ow c 0 -∗ start c)) : sProp 𝕄) := by
  unfold own credits
  iintro ⟨⟨#HR, ⟨Hat, Ho, Ht⟩, ⟨Hb, C16, C17, C18, C19, C20, C21, C22, C23⟩⟩, Hs, #Hlev⟩
  ihave #HC : ctx q k v o K $$ []
  · unfold ctx records
    icases HR with ⟨#HI, -⟩
    isplitl; · iexact HI
    iexact Hlev
  ihave #Ex : reached ER (barCell (px c)) 0 $$ []
  · unfold records
    icases HR with ⟨-, #HI⟩
    iapply (reached_at (px c)); iexact HI
  ihave #Ey : reached ER (barCell (py c)) 0 $$ []
  · unfold records
    icases HR with ⟨-, #HI⟩
    iapply (reached_at (py c)); iexact HI
  imod (open_all q k v o K c) $$ [Ho Hs] with HA
  · isplitr; · iexact HC
    isplitl [Ho] <;> iassumption
  imodintro
  isplitr; · iexact HC
  iintro HO
  ihave HA := (Entails.of_eq (all24 _)) $$ HA
  ihave Ht := (Entails.of_eq (toks_named c)) $$ Ht
  icases HA with ⟨⟨A0, #E0⟩, ⟨A1, #E1⟩, ⟨A2, #E2⟩, ⟨A3, #E3⟩, ⟨A4, #E4⟩, ⟨A5, #E5⟩, ⟨A6, #E6⟩, ⟨A7, #E7⟩, ⟨A8, #E8⟩, ⟨A9, #E9⟩,
    ⟨A10, #E10⟩, ⟨A11, #E11⟩, ⟨A12, #E12⟩, ⟨A13, #E13⟩, ⟨A14, #E14⟩, ⟨A15, #E15⟩, ⟨A16, #E16⟩, ⟨A17, #E17⟩, ⟨A18, #E18⟩, ⟨A19, #E19⟩,
    ⟨A20, #E20⟩, ⟨A21, #E21⟩, ⟨A22, #E22⟩, ⟨A23, #E23⟩⟩
  icases Ht with ⟨T0, T1, T2, T3, T4, T5, T6, T7, T8, T9, T10, T11, T12, T13, T14, T15, T16, T17, T18, T19, T20, T21, T22, T23, Tx, Ty⟩
  unfold start rdy fly
  iframe # ∗

/-! ## The buffers -/

/-- The unscoped buffers, one by one. -/
theorem bufs_eq (c : Dev nD) (W : Valuation τ sig (Elt F)) : (StableHlo.held (c : Thread nD τ) (Pipeline.ucRefs τ sig) W : sProp 𝕄)
    = iprop(pt c main_arg0 Finset.univ full (W main_arg0) ∗ pt c main_arg1 Finset.univ full (W main_arg1) ∗ pt c main_arg2 Finset.univ full (W main_arg2)
      ∗ pt c main_v1 Finset.univ full (W main_v1) ∗ pt c main_v2 Finset.univ full (W main_v2) ∗ pt c main_v3 Finset.univ full (W main_v3)
      ∗ pt c main_v4 Finset.univ full (W main_v4) ∗ pt c main_v5 Finset.univ full (W main_v5) ∗ pt c main_v6 Finset.univ full (W main_v6)) := by
  unfold StableHlo.held
  rw [bigSep_eq_bigSepL_of_eq [Proc.devRef .tc main_arg0, Proc.devRef .tc main_arg1, Proc.devRef .tc main_arg2, Proc.devRef .tc main_v1,
    Proc.devRef .tc main_v2, Proc.devRef .tc main_v3, Proc.devRef .tc main_v4, Proc.devRef .tc main_v5, Proc.devRef .tc main_v6]
    (by decide) (by decide)]
  rfl

variable (m : (ℓ : Loc nD τ sig) → Buf (Elt F) ℓ)

/-- The three arguments as the kernel finds them, device by device. -/
def qv (c : Dev nD) : Blk F := V0 m c (Proc.devRef .tc main_v1)
def kv (c : Dev nD) : Blk F := V0 m c (Proc.devRef .tc main_v2)
def vv (c : Dev nD) : Blk F := V0 m c (Proc.devRef .tc main_v3)
/-- And the kernel's result. -/
def ov (c : Dev nD) : Blk F := kept (outst (qv m) (kv m) (vv m)) c

/-- The contents after the kernel. -/
def V1 (c : Dev nD) : Valuation τ sig (Elt F) := Function.update (V0 m c) (Proc.devRef .tc main_v4) (ov m c)
theorem V1_v4 (c : Dev nD) : V1 m c main_v4 = ov m c := Function.update_self ..
theorem V1_ne (c : Dev nD) {b : Ref sig .tc} (h : (Proc.devRef .tc b : DevRef τ sig) ≠ Proc.devRef .tc main_v4) : V1 m c b = V0 m c b :=
  Function.update_of_ne h ..
/-- The contents at the end. -/
def V2 (c : Dev nD) : Valuation τ sig (Elt F) := StableHlo.after hostOps1 (V1 m c)

/-- What a device starts owing. -/
abbrev O₀ (c : Dev nD) : CellTallies nD τ sig Unit := owed c 0

/-- Dealt at launch. -/
def Tk (c : Dev nD) : sProp 𝕄 :=
  iprop(∃ K, records (qv m) (kv m) (vv m) (outst (qv m) (kv m) (vv m)) K ∗ own c ∗ credits c)
/-- Once the kernel's cells are open. -/
def Xk (c : Dev nD) : sProp 𝕄 :=
  iprop(∃ K, ctx (qv m) (kv m) (vv m) (outst (qv m) (kv m) (vv m)) K ∗ (ow c 0 -∗ start c))
/-- The buffers the kernel does not touch. -/
def others (c : Dev nD) (W : Valuation τ sig (Elt F)) : sProp 𝕄 :=
  iprop(pt c main_arg0 Finset.univ full (W main_arg0) ∗ pt c main_arg1 Finset.univ full (W main_arg1) ∗ pt c main_arg2 Finset.univ full (W main_arg2)
    ∗ pt c main_v5 Finset.univ full (W main_v5) ∗ pt c main_v6 Finset.univ full (W main_v6))

/-- The kernel's proof data: its one point owes `O₀` before it and nothing after. -/
def dat (c : Dev nD) : Pipeline.Dat τ (Elt F) Unit ℕ UU ℕ cfg0 c where
  A w := w.elim0
  after w := w.elim0
  Φ t := if t.val = 0 then iprop(Xk m c ∗ before (qv m) (kv m) (vv m) c ∗ others c (V0 m c) ∗ ∃ r, prngReg c r)
    else iprop(after (qv m) (kv m) (vv m) c ∗ others c (V0 m c) ∗ (∃ r, prngReg c r) ∗ semVal (barCell c) 0 ∗ Pipeline.ownSems0 osem c)
  q w := w.elim0
  owed t := if t.val = 0 then O₀ c else 0

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | 0 => dat m

theorem no_windows {M : Type} [URA M] (Φ : Fin 0 → sProp M) : bigSep Finset.univ Φ = (BI.emp : sProp M) :=
  bigSep_univ_eq_bigSepL [] (by decide) (by decide) Φ

theorem owed_start (c : Dev nD) : (dat (F := F) m c).owed t0_0.castSucc = O₀ c := by
  show (if (t0_0.castSucc : Fin (cfg0.N + 1)).val = 0 then O₀ c else 0) = O₀ c; exact if_pos rfl
theorem owed_zero (c : Dev nD) : (pdats (F := F) m 0 c).owed 0 = O₀ c := by
  show (if ((0 : Fin (cfg0.N + 1)).val = 0) then O₀ c else 0) = O₀ c; exact if_pos rfl
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

theorem owes_in (c : Dev nD) (t : Fin (cfg0.N + 1)) (O : CellTallies nD τ sig Unit) (h0 : (dat (F := F) m c).owed t = O) :
    (iprop(∃ W, owes (c : Thread nD τ) O W) : sProp 𝕄) ⊢ ((dat (F := F) m c).owesAt () t : sProp 𝕄) := by
  unfold Dat.owesAt Pipeline.owesWithin Dat.bound; rw [h0]
  iintro ⟨%W, HO⟩; iexists W; isplitr
  · ipureintro; exact fun _ _ => Or.inl trivial
  iexact HO
theorem owes_out (c : Dev nD) (t : Fin (cfg0.N + 1)) (O : CellTallies nD τ sig Unit) (h0 : (dat (F := F) m c).owed t = O) :
    ((dat (F := F) m c).owesAt () t : sProp 𝕄) ⊢ iprop(∃ W, owes (c : Thread nD τ) O W) := by
  unfold Dat.owesAt Pipeline.owesWithin; rw [h0]
  iintro ⟨%W, -, HO⟩; iexists W; iexact HO

theorem obligation (c : Dev nD) : BodyObligation (dat (F := F) m c) defs₀ 𝒱₀ () Set.univ := fun t => by
  obtain rfl := fin_N0 t
  rw [no_windows, no_windows]
  rw [show (dat m c).Φ t0_0.castSucc = iprop(Xk m c ∗ before (qv m) (kv m) (vv m) c ∗ others c (V0 m c) ∗ ∃ r, prngReg c r) from rfl,
    show (dat m c).Φ t0_0.succ = iprop(after (qv m) (kv m) (vv m) c ∗ others c (V0 m c) ∗ (∃ r, prngReg c r) ∗ semVal (barCell c) 0 ∗ Pipeline.ownSems0 osem c) from rfl]
  unfold Xk
  iintro ⟨⟨⟨%K, #HC, Hst⟩, Hbuf, Hoth, Hreg⟩, HO, -⟩
  ihave HO := (owes_out m c _ (O₀ c) (owed_start m c)) $$ HO
  ihave Hst := Hst $$ [HO]
  · unfold ow; iexact HO
  iapply (body (qv m) (kv m) (vv m) K c) $$ [Hst Hbuf]
  · isplitr; · iexact HC
    isplitl [Hst] <;> iassumption
  iintro ⟨Hf, Haft⟩
  imod (finish_close (qv m) (kv m) (vv m) (outst (qv m) (kv m) (vv m)) K c) $$ [Hf] with ⟨Hb, Hs, HO⟩
  · isplitr; · iexact HC
    iexact Hf
  imodintro
  isplitr [HO]
  · isplitl [Haft]; · iexact Haft
    isplitl [Hoth]; · iexact Hoth
    isplitl [Hreg]; · iexact Hreg
    isplitl [Hb] <;> iassumption
  isplitl [HO]
  · iapply (owes_in m c t0_0.succ 0 (owed_last m c)); unfold ow; iexact HO
  iempintro

/-! ## The three segments -/

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-- Rides beside the buffers up to the kernel. -/
def R (c : Dev nD) : sProp 𝕄 := iprop((Tk m c ∗ ∃ r, prngReg c r) ∗ ∃ W, owes (c : Thread nD τ) (O₀ c) W)
/-- And from it on. -/
def Rₙ (c : Dev nD) : sProp 𝕄 := iprop(semVal (barCell c) 0 ∗ ∃ W, owes (c : Thread nD τ) (0 : CellTallies nD τ sig Unit) W)

def seg0 : ℍ := Pipeline.HostSeg.ofOps _ _ _ _ _ (Pipeline.ucRefs τ sig) hostOps0
  (fun op h => Pipeline.sub_ucRefs op (List.forall_iff_forall_mem.mp hostOps0_sub op h))
  (List.forall_iff_forall_mem.mp hostOps0_fresh) (fun c b => m (c, b)) (R m)
def seg2 : ℍ := Pipeline.HostSeg.ofOps _ _ _ _ _ (Pipeline.ucRefs τ sig) hostOps1
  (fun op h => Pipeline.sub_ucRefs op (List.forall_iff_forall_mem.mp hostOps1_sub op h))
  (List.forall_iff_forall_mem.mp hostOps1_fresh) (V1 m) Rₙ

theorem own_sems : Pipeline.OwnSemFacts cfg0.spec osem := by decide
theorem kit : Pipeline.PLaunchFacts (nD := nD) (τ := τ) (pcfgs (F := F)) 0 where
  cellOf_inj a := by rw [Subsingleton.elim a adm]; exact cellOf_inj
  win := winFacts0
  pre := Pipeline.PreFacts.none _
  block_pos w := w.elim0
  arr_whole w := w.elim0
  stage_whole w := w.elim0

theorem opening (c : Dev nD) : iprop(Tk m c ∗ Pipeline.ownSems0 osem c ∗ levAts L lv) ⊢ (|={Set.univ}=> Xk m c : sProp 𝕄) := by
  unfold Tk Xk
  iintro ⟨⟨%K, HT⟩, Hs, #Hlev⟩
  imod (start_intro (qv m) (kv m) (vv m) (outst (qv m) (kv m) (vv m)) K c) $$ [HT Hs] with HX
  · isplitl [HT]; · iexact HT
    isplitl [Hs]; · iexact Hs
    iexact Hlev
  imodintro
  iexists K; iexact HX

theorem cut (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · obtain ⟨p, hp, rfl⟩ := owing_pos h
    refine ⟨?_, ?_⟩
    · unfold L; rw [if_pos (debts_tc hp)]; exact Finset.mem_singleton_self _
    · have hm := List.mem_map_of_mem (f := fun p : GSem nD τ sig × ℕ => semLv p.1.2) (List.mem_of_mem_drop hp)
      rw [debts_lv] at hm
      exact (by decide : ∀ y ∈ ([1, 1, 2, 2, 2, 2, 3, 3, 3, 3] : List ℕ), 0 < y) _ hm
  · exact absurd h (Nat.lt_irrefl 0)

theorem enter (c : Dev nD) : iprop(Pipeline.scopedRest (Pipeline.pin (pcfgs (F := F)) adm 0).spec c ∗ (∃ r, prngReg c r)
      ∗ StableHlo.held (c.tc : Thread nD τ) (Pipeline.ucRefs τ sig) (V0 m c) ∗ Xk m c)
    ⊢ (pdats m 0 c).Φ 0 := by
  rw [show (pdats m 0 c).Φ 0 = iprop(Xk m c ∗ before (qv m) (kv m) (vv m) c ∗ others c (V0 m c) ∗ ∃ r, prngReg c r) from rfl,
    show (Pipeline.scopedRest (Pipeline.pin (pcfgs (F := F)) adm 0).spec c : sProp 𝕄) = _ from scopedRest0_eq c, bufs_eq]
  unfold before others
  iintro ⟨⟨B0, B1, B2, B3, B4, B5⟩, Hp, ⟨A0, A1, A2, H1, H2, H3, H4, H5, H6⟩, HX⟩
  isplitl [HX]; · iexact HX
  isplitl [B0 B1 B2 B3 B4 B5 H1 H2 H3 H4]
  · isplitl [H1]; · iexact H1
    isplitl [H2]; · iexact H2
    isplitl [H3]; · iexact H3
    isplitl [H4]; · iexists _; iexact H4
    isplitl [B0]; · iexact B0
    isplitl [B1]; · iexact B1
    isplitl [B2]; · iexact B2
    isplitl [B3]; · iexact B3
    isplitl [B4]; · iexact B4
    iexact B5
  isplitr [Hp]
  · isplitl [A0]; · iexact A0
    isplitl [A1]; · iexact A1
    isplitl [A2]; · iexact A2
    isplitl [H5]; · iexact H5
    iexact H6
  iexact Hp

theorem leave (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) (Pipeline.ucRefs τ sig) (V1 m c) ∗ Pipeline.ownSems0 osem c ∗ semVal (barCell c) 0) := by
  rw [show (pdats m 0 c).Φ (Fin.last _) = iprop(after (qv m) (kv m) (vv m) c ∗ others c (V0 m c) ∗ (∃ r, prngReg c r) ∗ semVal (barCell c) 0 ∗ Pipeline.ownSems0 osem c) from rfl,
    show (Pipeline.scopedRest (Pipeline.pin (pcfgs (F := F)) adm 0).spec c : sProp 𝕄) = _ from scopedRest0_eq c, bufs_eq, V1_v4,
    V1_ne m c (b := main_arg0) (by decide), V1_ne m c (b := main_arg1) (by decide), V1_ne m c (b := main_arg2) (by decide),
    V1_ne m c (b := main_v1) (by decide), V1_ne m c (b := main_v2) (by decide), V1_ne m c (b := main_v3) (by decide),
    V1_ne m c (b := main_v5) (by decide), V1_ne m c (b := main_v6) (by decide)]
  unfold after others
  iintro ⟨⟨H1, H2, H3, H4, B0, B1, B2, B3, B4, B5⟩, ⟨A0, A1, A2, H5, H6⟩, Hp, Hb, Hs⟩
  isplitl [B0 B1 B2 B3 B4 B5]
  · isplitl [B0]; · iexact B0
    isplitl [B1]; · iexact B1
    isplitl [B2]; · iexact B2
    isplitl [B3]; · iexact B3
    isplitl [B4]; · iexact B4
    iexact B5
  isplitl [Hp]; · iexact Hp
  isplitr [Hb Hs]
  · isplitl [A0]; · iexact A0
    isplitl [A1]; · iexact A1
    isplitl [A2]; · iexact A2
    isplitl [H1]; · iexact H1
    isplitl [H2]; · iexact H2
    isplitl [H3]; · iexact H3
    isplitl [H4]; · iexact H4
    isplitl [H5]; · iexact H5
    iexact H6
  isplitl [Hs]; · iexact Hs
  iexact Hb

set_option backward.isDefEq.respectTransparency.types false in
/-- The kernel's segment. -/
def seg1 : ℝ𝕊 0 :=
  Pipeline.RegionSeg.ofTalk (pcfgs (F := F)) adm (pdats m) () defs₀ 𝒱₀ L lv 0 osem own_sems
    (Pipeline.ucRefs τ sig) (Pipeline.ucRefs τ sig) (Finset.Subset.refl _) kit rfl (fun c => (obligation m c).loose)
    (fun _ => 0) O₀ (fun c => (owed_zero m c).trans (zero_add _).symm) (owed_last m) (fun _ => rfl) (fun _ w => w.elim0)
    (V0 m) (V1 m) (fun _ b hb => absurd hb (by rw [Finset.sdiff_self]; exact Finset.notMem_empty b))
    (Tk m) (fun c => semVal (barCell c) 0) (Xk m) (fun c => semVal (barCell c) 0) (opening m) (enter m) (leave m)
    (fun c => by iintro H; imodintro; iexact H)
    (fun _ => 0)
    ⟨fun _ w => w.elim0, fun _ w => w.elim0, fun c t g i h => cut m c t g i h⟩
    (fun _ => iprop(emp))
    (fun _ w => w.elim0) (fun _ w => w.elim0)

theorem no_arrays (c : Dev nD) (W : Valuation τ sig (Elt F)) :
    (StableHlo.held (c.tc : Thread nD τ) (Pipeline.arrRefs (τ := τ) (pcfgs (F := F) 0).spec) W : sProp 𝕄) = BI.emp := by
  have h : Pipeline.arrRefs (τ := τ) (pcfgs (F := F) 0).spec = ∅ := by
    unfold Pipeline.arrRefs
    rw [Finset.map_eq_empty, Finset.image_eq_empty, Finset.univ_eq_empty]
  rw [h]
  unfold StableHlo.held
  exact BI.bigSep_empty

theorem seg1_pre (c : Dev nD) : iprop(StableHlo.held (c : Thread nD τ) (Pipeline.ucRefs τ sig) (V0 m c) ∗ R m c) ⊢ (seg1 m).pre c := by
  show _ ⊢ iprop(StableHlo.held (c.tc : Thread nD τ) (Pipeline.arrRefs (τ := τ) (pcfgs (F := F) 0).spec) (V0 m c) ∗ (∃ r, prngReg c r)
    ∗ (StableHlo.held (c.tc : Thread nD τ) (Pipeline.ucRefs τ sig) (V0 m c) ∗ emp) ∗ Tk m c ∗ ∃ Wd, owes (c : Thread nD τ) (0 + O₀ c) Wd)
  rw [no_arrays, zero_add]
  unfold R
  iintro ⟨Hh, ⟨HT, Hp⟩, HO⟩
  isplitr; · iempintro
  isplitl [Hp]; · iexact Hp
  isplitl [Hh]
  · isplitl [Hh]; · iexact Hh
    iempintro
  isplitl [HT] <;> iassumption

theorem seg1_post (c : Dev nD) : (seg1 m).post c ⊢ iprop(StableHlo.held (c : Thread nD τ) (Pipeline.ucRefs τ sig) (V1 m c) ∗ Rₙ c) := by
  show iprop(StableHlo.held (c.tc : Thread nD τ) (Pipeline.arrRefs (τ := τ) (pcfgs (F := F) 0).spec) (V1 m c) ∗ (∃ r, prngReg c r)
    ∗ (StableHlo.held (c.tc : Thread nD τ) (Pipeline.ucRefs τ sig) (V1 m c) ∗ emp) ∗ semVal (barCell c) 0
    ∗ ∃ Wd, owes (c : Thread nD τ) (0 : CellTallies nD τ sig Unit) Wd) ⊢ _
  rw [no_arrays]
  unfold Rₙ
  iintro ⟨-, -, ⟨Hh, -⟩, Hb, HO⟩
  isplitl [Hh]; · iexact Hh
  isplitl [Hb]; · iexact Hb
  iexact HO

/-- `main`'s segments. -/
def segs : List (Pipeline.Seg (pcfgs (F := F)) adm (pdats m) () defs₀ 𝒱₀ L lv) :=
  [.host (seg0 m), .region (seg1 m), .host (seg2 m)]

theorem main_eq (c : Dev nD) : main (F := F) c = Pipeline.Seg.run (segs m) :=
  main_segs adm (pdats m) () 𝒱₀ L lv (seg0 m) (seg2 m) (seg1 m) rfl rfl c

end Cert.KernelIdeal.Att
end
-- ==== Proof.Launch.lean ====
/-
# The launch and the run

Every cell's invariant is allocated at launch, the barrier's opened there, the kernel's own left for the kernel's entry;
each device gets its positions, the rights to pay its partners and the credit its waits spend. Then the run of `main`:
what every buffer ends with, the arguments unchanged, every counter at zero.
-/
module

public import proofs.«01_k».proof.Proof.Region

@[expose] public section

noncomputable section

namespace Cert.KernelIdeal.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The rights to pay -/

theorem cell_duty_inj : Function.Injective (fun j : Fin 26 => (cellSem j, duty j)) := by decide

/-- Every right to pay there is. -/
def allToks : Finset (GSem nD τ sig × ℕ × Bool) :=
  Finset.univ.map ⟨fun p : Dev nD × Fin 26 => (((p.1 : Thread nD τ), cellSem p.2), 0, duty p.2), fun _ _ h =>
    Prod.ext (congrArg (fun t : GSem nD τ sig × ℕ × Bool => t.1.1.1) h)
      (cell_duty_inj (Prod.ext (congrArg (fun t : GSem nD τ sig × ℕ × Bool => t.1.2) h) (congrArg (fun t : GSem nD τ sig × ℕ × Bool => t.2.2) h)))⟩

/-- Each to the device that pays it. -/
def hand : Dev nD × Fin 26 ≃ Dev nD × Fin 26 where
  toFun p := (payee p.2 p.1, p.2)
  invFun p := (payee p.2 p.1, p.2)
  left_inv p := Prod.ext (payee_payee p.2 p.1) rfl
  right_inv p := Prod.ext (payee_payee p.2 p.1) rfl

theorem toks_handed : bigSep allToks (fun x => (dutyTok ER x.1 x.2.1 x.2.2 : sProp 𝕄))
    = bigSep Finset.univ fun c : Dev nD => bigSep Finset.univ fun j : Fin 26 => tok (payee j c) j := by
  unfold allToks
  rw [bigSep_map, bigSep_univ_equiv hand, bigSep_univ_prod]
  rfl

theorem disjoint_cells : Disjoint (barCells : Finset (GSem nD τ sig)) dmaCells := by
  rw [Finset.disjoint_left]
  rintro g h₁ h₂
  obtain ⟨c, -, rfl⟩ := Finset.mem_map.mp h₁
  obtain ⟨p, -, h⟩ := Finset.mem_map.mp h₂
  exact absurd (congrArg (fun g : GSem nD τ sig => g.2) h) (by show (SemLoc.dma (dsem p.2) : SemLoc sig) ≠ .reg barS; intro h'; cases h')

/-- The launch element. -/
def u₀ : UU :=
  (initOf (Pipeline.cells (Pipeline.pin (pcfgs (F := F)) adm) cellOf_inj) (Pipeline.launchToks (Pipeline.pin (pcfgs (F := F)) adm) cellOf_inj),
    launchOf barCells dmaCells allToks)

/-- The protocol's part of it, kept whole at device 0. -/
def G (c : Dev nD) : sProp 𝕄 := if c = 0 then BI.own (ER (launchOf barCells dmaCells allToks)) else iprop(emp)
theorem G_all : bigSep Finset.univ (G (F := F)) = BI.own (ER (launchOf barCells dmaCells allToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-! ## The credit -/

theorem owing_apply (l : List (GSem nD τ sig × ℕ)) (g : GSem nD τ sig) :
    owing l g () = (l.map fun p => if p.1 = g then p.2 else 0).sum := by
  induction l with
  | nil => rfl
  | cons p l ih =>
    show (owing l + tallyAt p.1 () p.2) g () = _
    rw [Pi.add_apply, Finsupp.add_apply, ih, tallyAt_apply, List.map_cons, List.sum_cons, Nat.add_comm]
    congr 1
    by_cases h : p.1 = g
    · rw [if_pos ⟨h.symm, rfl⟩, if_pos h]
    · rw [if_neg (fun h' => h h'.1.symm), if_neg h]

theorem bar_eq (c d : Dev nD) : (barCell c = barCell d) = (c = d) :=
  propext ⟨fun h => congrArg (fun g : GSem nD τ sig => g.1.1) h, fun h => h ▸ rfl⟩
theorem dma_eq (c d : Dev nD) (s t : Fin 24) : (dCell c s = dCell d t) = (c = d ∧ s = t) :=
  propext ⟨fun h => ⟨congrArg (fun g : GSem nD τ sig => g.1.1) h, SemLoc.dma.inj (congrArg (fun g : GSem nD τ sig => g.2) h)⟩,
    fun h => by rw [h.1, h.2]⟩
theorem bar_dma (c d : Dev nD) (s : Fin 24) : (barCell c = dCell d s) = False :=
  eq_false fun h => by cases congrArg Prod.snd h
theorem dma_bar (c d : Dev nD) (s : Fin 24) : (dCell d s = barCell c) = False :=
  eq_false fun h => by cases congrArg Prod.snd h

theorem px_eq (c d : Dev nD) : (px d = c) = (d = px c) :=
  propext ⟨fun h => by rw [← h, px_px], fun h => by rw [h, px_px]⟩
theorem py_eq (c d : Dev nD) : (py d = c) = (d = py c) :=
  propext ⟨fun h => by rw [← h, py_py], fun h => by rw [h, py_py]⟩

theorem owed_bar (c d : Dev nD) : O₀ d (barCell c) () = (if d = px c then 1 else 0) + (if d = py c then 1 else 0) := by
  show owing (debts d) (barCell c) () = _
  rw [owing_apply]
  simp only [debts, List.map_cons, List.map_nil, List.sum_cons, List.sum_nil, bar_eq, dma_bar, px_eq, py_eq, if_false, Nat.add_zero]

theorem owed_x (s : Fin 24) (hs : s = 16 ∨ s = 17 ∨ s = 20 ∨ s = 21) (c d : Dev nD) :
    O₀ d (dCell c s) () = if d = px c then amt s else 0 := by
  show owing (debts d) (dCell c s) () = _
  rw [owing_apply]
  rcases hs with rfl | rfl | rfl | rfl <;>
  · simp only [debts, List.map_cons, List.map_nil, List.sum_cons, List.sum_nil, dma_eq, bar_dma, px_eq, py_eq, if_false, Nat.add_zero, Nat.zero_add,
      Fin.reduceEq, and_false, and_true]
    rfl

theorem owed_y (s : Fin 24) (hs : s = 18 ∨ s = 19 ∨ s = 22 ∨ s = 23) (c d : Dev nD) :
    O₀ d (dCell c s) () = if d = py c then amt s else 0 := by
  show owing (debts d) (dCell c s) () = _
  rw [owing_apply]
  rcases hs with rfl | rfl | rfl | rfl <;>
  · simp only [debts, List.map_cons, List.map_nil, List.sum_cons, List.sum_nil, dma_eq, bar_dma, px_eq, py_eq, if_false, Nat.add_zero, Nat.zero_add,
      Fin.reduceEq, and_false, and_true]
    rfl

theorem credit_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar c d, Finset.sum_add_distrib,
    Finset.sum_ite_eq' Finset.univ (px c) fun _ => 1, Finset.sum_ite_eq' Finset.univ (py c) fun _ => 1,
    if_pos (Finset.mem_univ _), if_pos (Finset.mem_univ _)]

theorem credit_one (c e : Dev nD) (s : Fin 24) (h : ∀ d, O₀ d (dCell c s) () = if d = e then amt s else 0) :
    tallyOn (dCell c s) (launchCredit (Pipeline.owing O₀) 0 (dCell c s)) = (tallyAt (dCell c s) () (amt s) : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ e fun _ => amt s,
    if_pos (Finset.mem_univ _)]

theorem credits_intro (c : Dev nD) : (Pipeline.launchCred O₀ c : sProp 𝕄) ⊢ credits c := by
  unfold Pipeline.launchCred credits
  refine BIBase.Entails.trans (BI.bigSep_subset (Finset.subset_univ ([SemLoc.reg barS, .dma (dsem 16), .dma (dsem 17), .dma (dsem 18), .dma (dsem 19),
    .dma (dsem 20), .dma (dsem 21), .dma (dsem 22), .dma (dsem 23)] : List (SemLoc sig)).toFinset)) ?_
  rw [bigSep_eq_bigSepL_of_eq _ rfl (by decide)]
  rw [← credit_bar c, ← credit_one c _ 16 (owed_x 16 (by decide) c), ← credit_one c _ 17 (owed_x 17 (by decide) c),
    ← credit_one c _ 18 (owed_y 18 (by decide) c), ← credit_one c _ 19 (owed_y 19 (by decide) c),
    ← credit_one c _ 20 (owed_x 20 (by decide) c), ← credit_one c _ 21 (owed_x 21 (by decide) c),
    ← credit_one c _ 22 (owed_y 22 (by decide) c), ← credit_one c _ 23 (owed_y 23 (by decide) c)]
  exact BI.Entails.refl _

/-! ## The launch -/

variable (m : (ℓ : Loc nD τ sig) → Buf (Elt F) ℓ) (ρ : Dev nD → PrngReg)

abbrev T₀ (c : Dev nD) : sProp 𝕄 := iprop(StableHlo.held (c : Thread nD τ) (Pipeline.ucRefs τ sig) (fun b => m (c, b)) ∗ R m c)
abbrev Tₙ (c : Dev nD) : sProp 𝕄 := iprop(StableHlo.held (c : Thread nD τ) (Pipeline.ucRefs τ sig) (V2 m c) ∗ semVal (barCell c) 0)

/-- What a device has at launch beside the protocol's state. -/
def plain (c : Dev nD) : sProp 𝕄 :=
  iprop(StableHlo.held (c : Thread nD τ) (Pipeline.ucRefs τ sig) (fun b => m (c, b)) ∗ credits c
    ∗ owes (c : Thread nD τ) (O₀ c) ∅ ∗ ∃ r, prngReg c r)

theorem bar_sem (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]
theorem unscoped_eq : ∀ sm : SemLoc sig, sm.isScoped .tc = false → sm = .reg barS := by decide

theorem T₀_intro (K : GSem nD τ sig → ℕ) (c : Dev nD) :
    iprop(records (qv m) (kv m) (vv m) (outst (qv m) (kv m) (vv m)) K ∗ (own c ∗ plain m c)) ⊢ T₀ m c := by
  unfold plain T₀ R Tk
  iintro ⟨#HR, Ho, Hh, Hc, HO, Hp⟩
  isplitl [Hh]; · iexact Hh
  isplitr [HO]
  · isplitr [Hp]
    · iexists K
      isplitr; · iexact HR
      isplitl [Ho] <;> iassumption
    iexact Hp
  iexists ∅; iexact HO

theorem deal (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(plain m c ∗ (semVal (barCell c) 0 ∗ G c)) : sProp 𝕄) := by
  rw [show unscopedBufs c (fun b => m ((c : Thread nD τ).loc b)) = StableHlo.held (c : Thread nD τ) (Pipeline.ucRefs τ sig) (fun b => m (c, b))
    from Pipeline.unscopedBufs_held c (fun b => m (c, b)), bar_sem]
  unfold plain
  iintro ⟨Hh, Hus, HO, Hcr, Hp, HG⟩
  ihave Hcr := (credits_intro (F := F) c) $$ Hcr
  isplitr [Hus HG]
  · isplitl [Hh]; · iexact Hh
    isplitl [Hcr]; · iexact Hcr
    isplitl [HO]; · iexact HO
    iexists (ρ c); iexact Hp
  isplitl [Hus] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hv : bigSep Finset.univ (fun c : Dev nD => (semVal (barCell c) 0 : sProp 𝕄)) = bigSep barCells (fun g => (semVal g 0 : sProp 𝕄)) :=
    (bigSep_map (s := Finset.univ) barEmb (Φ := fun g : GSem nD τ sig => (semVal g 0 : sProp 𝕄))).symm
  have hat : bigSep barCells (fun g => (atPos ER g 0 ∅ 0 : sProp 𝕄)) = bigSep Finset.univ (fun c : Dev nD => (atPos ER (barCell c) 0 ∅ 0 : sProp 𝕄)) :=
    bigSep_map (s := Finset.univ) barEmb (Φ := fun g : GSem nD τ sig => (atPos ER g 0 ∅ 0 : sProp 𝕄))
  have hop : bigSep dmaCells (fun g => (openTok ER g : sProp 𝕄))
      = bigSep Finset.univ (fun c : Dev nD => bigSep Finset.univ (fun s : Fin 24 => openTok ER (dCell c s))) := by
    rw [bigSep_map, bigSep_univ_prod]; rfl
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(plain m c ∗ (semVal (barCell c) 0 ∗ G c)) : sProp 𝕄) from bigSep_mono fun c _ => deal m ρ c) $$ H
  ihave H := (Entails.of_eq (BI.bigSep_sep' _ _ _)) $$ H
  icases H with ⟨HB, H⟩
  ihave H := (Entails.of_eq (BI.bigSep_sep' _ _ _)) $$ H
  icases H with ⟨Hv, HG⟩
  ihave Hv := (Entails.of_eq hv) $$ Hv
  ihave HG := (Entails.of_eq (G_all (F := F))) $$ HG
  imod (Rounds.fund_launch ER (rd (qv m) (kv m) (vv m) (outst (qv m) (kv m) (vv m))) disjoint_cells (fun g _ h => h) allToks) $$ [Hv HG]
    with ⟨%K, -, #Hinv, #Hr, Hat, Hopen, Htok⟩
  · isplitl [Hv] <;> iassumption
  ihave Hat := (Entails.of_eq hat) $$ Hat
  ihave Hopen := (Entails.of_eq hop) $$ Hopen
  ihave Htok := (Entails.of_eq (toks_handed (F := F))) $$ Htok
  imodintro
  iapply (bigSep_with_persistent (R := records (qv m) (kv m) (vv m) (outst (qv m) (kv m) (vv m)) K) (Φ := fun c => iprop(own c ∗ plain m c))
    fun c _ => T₀_intro m K c)
  isplitr
  · unfold records
    isplitr; · iexact Hinv
    iexact Hr
  iapply (Entails.of_eq (BI.bigSep_sep' _ _ _).symm)
  isplitr [HB]
  · unfold own
    iapply (Entails.of_eq (BI.bigSep_sep' _ _ _).symm)
    isplitl [Hat]; · iexact Hat
    iapply (Entails.of_eq (BI.bigSep_sep' _ _ _).symm)
    isplitl [Hopen] <;> iassumption
  · iexact HB

/-! ## The run -/

/-- The operations after the kernel write their own results only. -/
theorem V2_ne (c : Dev nD) {b : Ref sig .tc} (h4 : (Proc.devRef .tc b : DevRef τ sig) ≠ Proc.devRef .tc main_v4)
    (h5 : (Proc.devRef .tc b : DevRef τ sig) ≠ Proc.devRef .tc main_v5) (h6 : (Proc.devRef .tc b : DevRef τ sig) ≠ Proc.devRef .tc main_v6) :
    V2 m c b = V0 m c b := by
  refine (StableHlo.after_of_forall_not_mem (b := Proc.devRef .tc b) _ _ (List.forall_iff_forall_mem.mp ?_)).trans (V1_ne m c h4)
  simp only [hostOps1, List.Forall, StableHlo.unary_writes, StableHlo.reshape_writes, Finset.mem_singleton]
  exact ⟨h5, h6⟩

set_option backward.isDefEq.respectTransparency.types false in
/-- From any memory with zero counters every fair execution of `main` on the eight devices ends, with the result as the
    operations leave it, the arguments as they were, and every counter at zero. -/
theorem run_main : θ_run defs (onTc (τ := τ) (main (F := F))) ⟨m, fun _ => 0, ρ⟩
    (fun r => (∀ c : Dev nD, r.2.mem ((c : Thread nD τ).loc main_v6) = V2 m c main_v6
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := by
      refine ⟨fun c => .rfl, fun c => seg1_pre m c, fun c => seg1_post m c, fun c => ?_⟩
      show iprop(StableHlo.held (c : Thread nD τ) (Pipeline.ucRefs τ sig) (V2 m c) ∗ Rₙ c)
        ⊢ iprop(Tₙ m c ∗ ∃ W, owes (c : Thread nD τ) (0 : CellTallies nD τ sig Unit) W)
      unfold Rₙ
      iintro ⟨Hh, Hb, HO⟩
      isplitr [HO]
      · isplitl [Hh] <;> iassumption
      · iexact HO)
    (hinit := init m ρ)
    (QY := fun c s => (s.mem ((c : Thread nD τ).loc main_v6) = V2 m c main_v6
        ∧ s.mem ((c : Thread nD τ).loc main_arg0) = V2 m c main_arg0
        ∧ s.mem ((c : Thread nD τ).loc main_arg1) = V2 m c main_arg1
        ∧ s.mem ((c : Thread nD τ).loc main_arg2) = V2 m c main_arg2) ∧ s.sem (barCell c) = 0)
    (hfin := fun c s' => by
      dsimp only [Tₙ]; rw [bufs_eq]
      iintro ⟨⟨⟨A0, A1, A2, -, -, -, -, -, H6⟩, Hb⟩, HSI⟩
      icombine HSI H6 gives %h6
      icombine HSI A0 gives %h0
      icombine HSI A1 gives %h1
      icombine HSI A2 gives %h2
      icombine HSI Hb gives %hb
      imodintro
      isplitr
      · ipureintro
        exact ⟨⟨Buf.eq_of_forall_mem_univ h6, Buf.eq_of_forall_mem_univ h0, Buf.eq_of_forall_mem_univ h1, Buf.eq_of_forall_mem_univ h2⟩, by simpa using hb⟩
      iexact HSI)
    (hQ := fun s h hs => ⟨fun c => by
        obtain ⟨⟨h6, h0, h1, h2⟩, -⟩ := h c
        rw [V2_ne m c (by decide) (by decide) (by decide)] at h0 h1 h2
        exact ⟨h6, h0.trans (V_main_arg0 m c), h1.trans (V_main_arg1 m c), h2.trans (V_main_arg2 m c)⟩,
      sem_eq_zero hs fun c sm hsm => by
        obtain rfl := unscoped_eq sm hsm
        exact (h c).2⟩)

end Cert.KernelIdeal.Att
end
-- ==== Proof.Plain.lean ====
/-
# The kernel as printed at the machine's numbers

The idealized kernel differs from the printed one in one named constant; naming it by its own bits gives the printed
kernel back, and with it that kernel's run.
-/
module

public import proofs.«01_k».proof.Proof.Launch
public import proofs.«01_k».proof.Proof.Gen.Kernel

@[expose] public section

noncomputable section

namespace Cert.KernelIdeal.Att

open Idealize.ShloMosaic

/-- Each constant by its bits. -/
@[reducible] def byBits {F : FTy → Type} [FloatOps F] : Named F := ⟨fun _ _ {φ} bits => Scalar.ofBits φ bits⟩

variable {F : FTy → Type} [FloatOps F]

theorem plain_main : Cert.Kernel.main (F := F) = Cert.KernelIdeal.main (F := F) := rfl

theorem plain_defs : Cert.Kernel.defs (F := F) = @Cert.KernelIdeal.defs F _ byBits _ := rfl

end Cert.KernelIdeal.Att
end
-- ==== Proof.Numbers.lean ====
/-
# The arithmetic of one output element

Over the extended reals: the constants that the two programs spell by their words; a sum over 1024 keys cut as the
devices hold them; and the equation of the two softmaxes. One divides the weighted values by the sum of the weights and
takes the weights as powers of two; the other subtracts the largest score first and divides each weight. The scores are
real numbers, the values any extended reals.
-/
module

public import Idealize.ShloMosaic.PureOps
public import Idealize.ShloMosaic.Lib.IdealHost

@[expose] public section

noncomputable section

namespace Cert.Softmax

open Idealize.ShloMosaic

/-! ## Constants -/

theorem eighth : Ideal.ofBits .f32 0x3E000000#32 = ((1 / 8 : ℝ) : EReal) := by
  simp [Ideal.ofBits, Ideal.ieee, -EReal.coe_mul]
  norm_num

theorem neg_inf : Ideal.ofBits .f32 0xFF800000#32 = (⊥ : EReal) := by
  simp [Ideal.ofBits, Ideal.ieee]

theorem pos_inf : Ideal.ofBits .bf16 0x7F80#16 = (⊤ : EReal) := by
  simp [Ideal.ofBits, Ideal.ieee]

/-! ## Real and extended real -/

theorem real_of_abs_lt {x : EReal} (h : max x (-x) < ⊤) : ∃ r : ℝ, x = (r : EReal) := by
  induction x with
  | bot => simp at h
  | coe r => exact ⟨r, rfl⟩
  | top => simp at h

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor that is not negative goes into a sum of extended reals. -/
theorem sum_mul_real {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

theorem div_real (x : EReal) {c : ℝ} (hc : c ≠ 0) : Ideal.div x (c : EReal) = x * ((c⁻¹ : ℝ) : EReal) := by
  rw [Ideal.div, if_neg (by exact_mod_cast hc), EReal.coe_inv]

/-- The largest of real numbers, not none of them, is real. -/
theorem max_real {n : ℕ} (f : Fin (n + 1) → EReal) (a : Fin (n + 1) → ℝ) (h : ∀ k, f k = (a k : EReal)) :
    ∃ r : ℝ, Finset.univ.fold max (⊥ : EReal) f = (r : EReal) := by
  have h1 : Finset.univ.fold max (⊥ : EReal) f < ⊤ :=
    (Finset.fold_max_lt _).mpr ⟨bot_lt_top, fun k _ => by rw [h k]; exact EReal.coe_lt_top _⟩
  have h2 : ⊥ < Finset.univ.fold max (⊥ : EReal) f :=
    (Finset.lt_fold_max _).mpr (.inr ⟨0, Finset.mem_univ _, by rw [h 0]; exact EReal.bot_lt_coe _⟩)
  exact ⟨_, (EReal.coe_toReal h1.ne h2.ne').symm⟩

/-! ## The cut of the keys -/

/-- The 1024 keys: the half `x`, then the two quarters of the other half. -/
theorem sum_cut (x : ℕ) (hx : x < 2) (f : Fin 1024 → EReal) :
    ∑ k, f k = (∑ k : Fin 512, f ⟨512 * x + k.val, by omega⟩)
      + (∑ k : Fin 256, f ⟨512 * (1 - x) + k.val, by omega⟩)
      + ∑ k : Fin 256, f ⟨512 * (1 - x) + 256 + k.val, by omega⟩ := by
  have half : ∑ k, f k = (∑ k : Fin 512, f ⟨k.val, by omega⟩) + ∑ k : Fin 512, f ⟨512 + k.val, by omega⟩ :=
    Fin.sum_univ_add (a := 512) (b := 512) f
  have quarter (g : Fin 512 → EReal) :
      ∑ k, g k = (∑ k : Fin 256, g ⟨k.val, by omega⟩) + ∑ k : Fin 256, g ⟨256 + k.val, by omega⟩ :=
    Fin.sum_univ_add (a := 256) (b := 256) g
  rcases (by omega : x = 0 ∨ x = 1) with rfl | rfl
  · rw [half, quarter fun k => f ⟨512 + k.val, by omega⟩, ← add_assoc]
    simp only [Nat.mul_zero, Nat.zero_add, Nat.sub_zero, Nat.mul_one, Nat.add_assoc]
  · rw [half, quarter fun k => f ⟨k.val, by omega⟩, add_comm, ← add_assoc]
    simp only [Nat.mul_one, Nat.sub_self, Nat.mul_zero, Nat.zero_add]

/-! ## The two softmaxes -/

/-- A power of two with exponent divided by the logarithm of two. -/
theorem exp2_real (a : ℝ) : Ideal.exp2 ((a * (Real.log 2)⁻¹ : ℝ) : EReal) = ((Real.exp a : ℝ) : EReal) := by
  show ((Real.rpow 2 (a * (Real.log 2)⁻¹) : ℝ) : EReal) = _
  have h : Real.log 2 ≠ 0 := (Real.log_pos (by norm_num)).ne'
  rw [show Real.rpow 2 (a * (Real.log 2)⁻¹) = (2 : ℝ) ^ (a * (Real.log 2)⁻¹) from rfl,
    Real.rpow_def_of_pos (by norm_num), mul_comm, mul_assoc, inv_mul_cancel₀ h, mul_one]

/-- Scores `a` (real), values `w` (any): the weights as they are, divided once, against the weights by the largest
    score `m`, each divided by their sum. -/
theorem softmax_eq {n : ℕ} (a : Fin (n + 1) → ℝ) (w : Fin (n + 1) → EReal) (m : ℝ) :
    Ideal.div (∑ k, ((Real.exp (a k) : ℝ) : EReal) * w k) (∑ k, ((Real.exp (a k) : ℝ) : EReal) * 1)
      = ∑ k, w k * Ideal.div (Ideal.exp ((a k : EReal) - (m : EReal))) (0 + ∑ j, Ideal.exp ((a j : EReal) - (m : EReal))) := by
  have e : ∀ k, Ideal.exp ((a k : EReal) - (m : EReal)) = ((Real.exp (a k - m) : ℝ) : EReal) := fun k => by
    rw [← EReal.coe_sub]; rfl
  have pos : ∀ b : Fin (n + 1) → ℝ, 0 < ∑ k, Real.exp (b k) := fun b =>
    Finset.sum_pos (fun k _ => Real.exp_pos _) Finset.univ_nonempty
  simp only [e, mul_one, zero_add]
  rw [← coe_sum, ← coe_sum, div_real _ (pos a).ne', sum_mul_real _ _ (inv_nonneg.mpr (pos a).le)]
  refine Finset.sum_congr rfl fun k _ => ?_
  rw [div_real _ (pos fun j => a j - m).ne', ← EReal.coe_mul, mul_right_comm, ← EReal.coe_mul, mul_comm]
  congr 2
  have hs : ∑ j, Real.exp (a j - m) = (∑ j, Real.exp (a j)) * Real.exp (-m) := by
    rw [Finset.sum_mul]
    exact Finset.sum_congr rfl fun j _ => by rw [← Real.exp_add, sub_eq_add_neg]
  rw [hs, sub_eq_add_neg, Real.exp_add, mul_inv, mul_mul_mul_comm, mul_inv_cancel₀ (Real.exp_pos _).ne', mul_one]

end Cert.Softmax

end
-- ==== Proof.Element.lean ====
/-
# One element of the kernel's output

Read down to sums over the keys and over the 64 lanes of a head: the weighted values of 512 keys held and of two times
256 keys that arrived, over the sum of their weights.
-/
module

public import proofs.«01_k».proof.Proof.Contents
public import proofs.«01_k».proof.Proof.Numbers
public import Idealize.ShloMosaic.Lib.Pointwise

@[expose] public section

noncomputable section

namespace Cert.KernelIdeal.Att

open Cert.KernelIdeal Cert.KernelIdeal.Gen
open Idealize.ShloMosaic

/-- The value that the name stands for. -/
def scale : ℝ := (1 / 8) * (Real.log 2)⁻¹

theorem scale_value : Named.named (F := Ideal) κ "scale" (φ := .bf16) 0x3E39#16 = (scale : EReal) :=
  IdealRules.named_const.ideal_named_scalar _ _ _ _ rfl

/-- The element of an array in row `r` and column `c`. -/
def el (f : Blk Ideal) (r c : ℕ) : EReal :=
  f (ix2 (⟨r % 1024, Nat.mod_lt _ (by decide)⟩ : Fin 1024) (⟨c % 512, Nat.mod_lt _ (by decide)⟩ : Fin 512))

theorem el_of (f : Blk Ideal) (r c : ℕ) (hr : r < 1024) (hc : c < 512) : f (ix2 (⟨r, hr⟩ : Fin 1024) (⟨c, hc⟩ : Fin 512)) = el f r c := by
  unfold el
  congr 2
  · exact Fin.ext (Nat.mod_eq_of_lt hr).symm
  · exact Fin.ext (Nat.mod_eq_of_lt hc).symm

theorem el_ix (f : Blk Ideal) (r c : ℕ) (hr : r < 1024) (hc : c < 512) : f (ix r c hr hc) = el f r c :=
  (congrArg f (show ix r c hr hc = ix2 (⟨r, hr⟩ : Fin 1024) (⟨c, hc⟩ : Fin 512) from idx_ext rfl rfl)).trans (el_of f r c hr hc)

theorem win_at (f : Blk Ideal) (a : ℕ) (ha : a + 256 ≤ 1024) (r : Fin 256) (c : Fin 512) : win a ha f (ix2 r c) = el f (a + r.val) c.val :=
  el_ix f _ _ _ _

/-- The weight of key row `k` of `K` for query row `r` of `Q`, in the head whose columns begin at `o`. -/
def weight (Q K : Blk Ideal) (r k o : ℕ) : EReal :=
  Ideal.exp2 (∑ e : Fin 64, el Q r (o + e.val) * (scale : EReal) * el K k (o + e.val))

section
variable (Q K V KR VR : Blk Ideal) {R o : ℕ} (hR : R + 512 ≤ 1024) (ho : o + 64 ≤ 512)

set_option maxRecDepth 16384

theorem headLoc_at (s : Fin 512) (d : Fin 64) :
    numer (headLoc Q K V R o hR ho) (ix2 s d)
      = ∑ k : Fin 512, weight Q K (R + s.val) (R + k.val) o * el V (R + k.val) (o + d.val) := by
  pointwise [numer, headLoc, chunkL, headQ]
  simp only [el_of, scale_value]
  rfl

theorem headLoc_ones (s : Fin 512) :
    denom (headLoc Q K V R o hR ho) (ix2 s (0 : Fin 1)) = ∑ k : Fin 512, weight Q K (R + s.val) (R + k.val) o * 1 := by
  pointwise [denom, headLoc, chunkL, headQ]
  simp only [el_of, scale_value]
  rfl

theorem headRem_at {a : ℕ} (ha : a + 256 ≤ 1024) (s : Fin 512) (d : Fin 64) :
    numer (headRem Q KR VR R a o hR ha ho) (ix2 s d)
      = ∑ k : Fin 256, weight Q KR (R + s.val) (a + k.val) o * el VR (a + k.val) (o + d.val) := by
  pointwise [numer, headRem, chunkS, headQ]
  simp only [el_of, win_at, scale_value]
  rfl

theorem headRem_ones {a : ℕ} (ha : a + 256 ≤ 1024) (s : Fin 512) :
    denom (headRem Q KR VR R a o hR ha ho) (ix2 s (0 : Fin 1)) = ∑ k : Fin 256, weight Q KR (R + s.val) (a + k.val) o * 1 := by
  pointwise [denom, headRem, chunkS, headQ]
  simp only [el_of, win_at, scale_value]
  rfl

theorem headOut_at (s : Fin 512) (d : Fin 64) :
    headOut Q K V KR VR R o hR ho (ix2 s d)
      = Ideal.div (numer (headLoc Q K V R o hR ho) (ix2 s d) + numer (headRem Q KR VR R R o hR (by omega) ho) (ix2 s d)
            + numer (headRem Q KR VR R (R + 256) o hR (by omega) ho) (ix2 s d))
          (denom (headLoc Q K V R o hR ho) (ix2 s (0 : Fin 1)) + denom (headRem Q KR VR R R o hR (by omega) ho) (ix2 s (0 : Fin 1))
            + denom (headRem Q KR VR R (R + 256) o hR (by omega) ho) (ix2 s (0 : Fin 1))) := by
  pointwise [headOut, quo]

end

end Cert.KernelIdeal.Att
end
-- ==== Proof.Reference.lean ====
/-
# What the reference computes

Its result as a function of the three whole arrays, read at one index: a sum over the 1024 keys of the value times the
weight, the weight being the exponential of the score less the row's largest, divided by the sum of those.
-/
module

public import proofs.«01_k».proof.Proof.Gen.ReferenceIdeal.Run
public import proofs.«01_k».proof.Proof.Numbers
public import Idealize.ShloMosaic.Lib.Pointwise

@[expose] public section

noncomputable section

namespace Cert.ReferenceIdeal.Att

open Cert.ReferenceIdeal Cert.ReferenceIdeal.Gen
open Idealize.ShloMosaic Idealize.SL.Sem

/-- A whole array, and an array of scores. -/
abbrev Whole : Type := FVec Ideal S2x1024x8x64 .bf16
abbrev Scores : Type := FVec Ideal S2x8x1024x1024 .f32

/-- The scores. -/
def scores (Q K : Whole) : Scores :=
  mulf (Host.dotGeneral dot_S2x1024x8x64_S2x1024x8x64_S2x8x1024x1024_3_3_1_1_02_02 none
    (extf .f32 Q bitsLt_bf16_f32 : FVec Ideal S2x1024x8x64 .f32) (extf .f32 K bitsLt_bf16_f32 : FVec Ideal S2x1024x8x64 .f32))
    (broadcastInDim S2x8x1024x1024 ![] bcast_S_S2x8x1024x1024 (constant S_ .f32 0x3E000000#32))

/-- A number per row, along the row. -/
def along (v : FVec Ideal S2x8x1024 .f32) : Scores :=
  broadcastInDim S2x8x1024x1024 ![0, 1, 2, 3] bcast_S2x8x1024x1_S2x8x1024x1024_0_1_2_3
    (broadcastInDim S2x8x1024x1 ![0, 1, 2] bcast_S2x8x1024_S2x8x1024x1_0_1_2 v : FVec Ideal S2x8x1024x1 .f32)

/-- Each row's largest score. -/
def largest (s : Scores) : FVec Ideal S2x8x1024 .f32 :=
  Host.reduce FloatOps.maximumf s (constant S_ .f32 0xFF800000#32) reducesTo_S2x8x1024x1024_S2x8x1024_d3 h_S_

/-- The exponentials. -/
def expos (s : Scores) : Scores := Host.exp (subf s (along (largest s)))

/-- The weights. -/
def weights (p : Scores) : Scores :=
  Host.divf p (along (Host.reduceAdd p (constant S_ .f32 0x00000000#32) reducesTo_S2x8x1024x1024_S2x8x1024_d3 h_S_))

/-- The result. -/
def result (Q K V : Whole) : FVec Ideal S2x1024x8x64 .f32 :=
  transpose S2x1024x8x64 [0, 3, 1, 2]
    (Host.dotGeneral dot_S2x1024x8x64_S2x8x1024x1024_S2x8x64x1024_1_3_3_2_02_01 none
      (extf .f32 V bitsLt_bf16_f32 : FVec Ideal S2x1024x8x64 .f32) (weights (expos (scores Q K))) : FVec Ideal S2x8x64x1024 .f32)
    transposes_S2x8x64x1024_S2x1024x8x64_0_3_1_2

/-- The reference's run ends with that result and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16)
          = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run (F := Ideal) m ρ

/-! ## Read at an index -/

set_option maxRecDepth 16384

theorem scores_at (Q K : Whole) (b : Fin 2) (h : Fin 8) (q k : Fin 1024) :
    scores Q K (ix4 b h q k) = (∑ e : Fin 64, Q (ix4 b q h e) * K (ix4 b k h e)) * ((1 / 8 : ℝ) : EReal) := by
  pointwise [scores]
  rw [Softmax.eighth]

theorem along_at (v : FVec Ideal S2x8x1024 .f32) (b : Fin 2) (h : Fin 8) (q k : Fin 1024) :
    along v (ix4 b h q k) = v (ix3 b h q) := by
  pointwise [along]

theorem largest_at (s : Scores) (b : Fin 2) (h : Fin 8) (q : Fin 1024) :
    largest s (ix3 b h q) = Finset.univ.fold max (⊥ : EReal) fun k : Fin 1024 => s (ix4 b h q k) := by
  pointwise [largest]
  rw [Softmax.neg_inf]

theorem expos_at (s : Scores) (b : Fin 2) (h : Fin 8) (q k : Fin 1024) :
    expos s (ix4 b h q k) = Ideal.exp (s (ix4 b h q k) - largest s (ix3 b h q)) := by
  pointwise [expos]
  rw [along_at]

theorem weights_at (p : Scores) (b : Fin 2) (h : Fin 8) (q k : Fin 1024) :
    weights p (ix4 b h q k) = Ideal.div (p (ix4 b h q k)) (0 + ∑ j : Fin 1024, p (ix4 b h q j)) := by
  pointwise [weights]
  rw [along_at]
  pointwise

theorem result_at (Q K V : Whole) (b : Fin 2) (q : Fin 1024) (h : Fin 8) (d : Fin 64) :
    result Q K V (ix4 b q h d) = ∑ k : Fin 1024, V (ix4 b k h d) * weights (expos (scores Q K)) (ix4 b h q k) := by
  pointwise [result]

end Cert.ReferenceIdeal.Att

end
-- ==== Proof.Value.lean ====
/-
# Every device ends holding its block of the reference's result

The arguments are blocks of three whole arrays, cut along the tokens by the x coordinate. What a device keeps and what
arrives of an array are then rows of the whole one; the sums over the keys held and over those that arrived make the sum
over all 1024; and the two softmaxes agree where queries and keys are finite.
-/
module

public import proofs.«01_k».proof.Proof.Element
public import proofs.«01_k».proof.Proof.Reference
public import proofs.«01_k».proof.Proof.Launch

@[expose] public section

noncomputable section

namespace Cert.KernelIdeal.Att

open Cert.KernelIdeal Cert.KernelIdeal.Gen
open Idealize.ShloMosaic Idealize.ShloMosaic.TcCoe Idealize.SL.Sem

/-- A whole array, and a device's block of it. -/
abbrev Whole : Type := FVec Ideal ⟨4, ![2, 1024, 8, 64]⟩ .bf16
abbrev Part : Type := FVec Ideal S2x512x8x64 .bf16

/-- The device's place on the two axes along which the kernel talks. -/
def xc (c : Dev nD) : ℕ := c.val / 4
def yc (c : Dev nD) : ℕ := (c.val / 2) % 2

theorem xc_lt (c : Dev nD) : xc c < 2 := by revert c; decide
theorem yc_lt (c : Dev nD) : yc c < 2 := by revert c; decide
theorem xc_px (c : Dev nD) : xc (px c) = 1 - xc c := by revert c; decide
theorem xc_py (c : Dev nD) : xc (py c) = xc c := by revert c; decide
theorem yc_px (c : Dev nD) : yc (px c) = yc c := by revert c; decide
theorem yc_py (c : Dev nD) : yc (py c) = 1 - yc c := by revert c; decide

/-- Token `s` of half `x`. -/
def token (x : ℕ) (s : Fin 512) : Fin 1024 := ⟨(512 * x + s.val) % 1024, Nat.mod_lt _ (by decide)⟩

/-! ## The cut of the whole arrays -/

/-- The block of the whole array that device `c` holds. -/
def block {α : Type} (c : Dev nD) (A : (⟨4, ![2, 1024, 8, 64]⟩ : Shape).Idx → α) : S2x512x8x64.Idx → α :=
  Layout.blockN ⟨4, ![2, 512, 8, 64]⟩ ⟨4, ![2, 1024, 8, 64]⟩ (Layout.meshBlock [2, 2, 2] ![[], [0], [], []] c) A

theorem block_at {α : Type} (c : Dev nD) (A : (⟨4, ![2, 1024, 8, 64]⟩ : Shape).Idx → α) (b : Fin 2) (s : Fin 512) (h : Fin 8) (d : Fin 64) :
    block c A (ix4 b s h d) = A (ix4 b (token (xc c) s) h d) := by
  have hx : Layout.meshLin [2, 2, 2] c.val [0] = xc c := by revert c; decide
  have hlt := xc_lt c
  unfold block
  rw [Layout.blockN_apply]
  refine congrArg A (funext fun a => Fin.ext ?_)
  rw [Layout.TilesN.idx_val]
  match a with
  | 0 => show 0 * 2 + b.val = b.val; omega
  | 1 => show Layout.meshLin [2, 2, 2] c.val [0] * 512 + s.val = (512 * xc c + s.val) % 1024; rw [hx]; omega
  | 2 => show 0 * 8 + h.val = h.val; omega
  | 3 => show 0 * 64 + d.val = d.val; omega

/-- `f` holds, on each device, its block of `A` as 1024 rows of 512. -/
def Holds (f : Dev nD → Blk Ideal) (A : Whole) : Prop :=
  ∀ (c : Dev nD) (b : Fin 2) (s : Fin 512) (h : Fin 8) (d : Fin 64),
    el (f c) (512 * b.val + s.val) (64 * h.val + d.val) = A (ix4 b (token (xc c) s) h d)

set_option maxRecDepth 16384 in
theorem el_cast (v : Part) (b : Fin 2) (s : Fin 512) (h : Fin 8) (d : Fin 64) :
    el (shapeCast S1024x512 v shapeCasts_S2x512x8x64_S1024x512) (512 * b.val + s.val) (64 * h.val + d.val) = v (ix4 b s h d) := by
  unfold el
  pointwise

section
variable (m : (ℓ : Loc nD τ sig) → Buf (Elt Ideal) ℓ)

theorem qv_eq (c : Dev nD) : qv m c = shapeCast S1024x512 (m ((c.tc : Thread nD τ).loc main_arg0) : Part) shapeCasts_S2x512x8x64_S1024x512 := rfl
theorem kv_eq (c : Dev nD) : kv m c = shapeCast S1024x512 (m ((c.tc : Thread nD τ).loc main_arg1) : Part) shapeCasts_S2x512x8x64_S1024x512 := rfl
theorem vv_eq (c : Dev nD) : vv m c = shapeCast S1024x512 (m ((c.tc : Thread nD τ).loc main_arg2) : Part) shapeCasts_S2x512x8x64_S1024x512 := rfl

theorem v6_eq (c : Dev nD) : V2 m c main_v6
    = (extf .f32 (shapeCast S2x512x8x64 (ov m c) shapeCasts_S1024x512_S2x512x8x64 : Part) bitsLt_bf16_f32 : FVec Ideal S2x512x8x64 .f32) := by
  show StableHlo.after hostOps1 (V1 m c) main_v6 = _
  rw [← V1_v4 m c]
  rfl
end

set_option maxRecDepth 16384 in
theorem cast_at (v : Blk Ideal) (b : Fin 2) (s : Fin 512) (h : Fin 8) (d : Fin 64) :
    shapeCast S2x512x8x64 v shapeCasts_S1024x512_S2x512x8x64 (ix4 b s h d) = el v (512 * b.val + s.val) (64 * h.val + d.val) := by
  pointwise
  rw [Nat.mul_comm 512 b.val, Nat.mul_comm 64 h.val]
  exact el_of v _ _ _ _

/-! ## What is kept and what arrives -/

theorem el_congr (f : Blk Ideal) {r r' c c' : ℕ} (hr : r % 1024 = r' % 1024) (hc : c % 512 = c' % 512) : el f r c = el f r' c' := by
  unfold el
  congr 2
  · exact Fin.ext hr
  · exact Fin.ext hc

theorem lo_yc (c : Dev nD) : lo c = 512 * yc c := rfl

theorem el_mv (f : Blk Ideal) (n r c : ℕ) :
    f (mv n (ix2 (⟨r % 1024, Nat.mod_lt _ (by decide)⟩ : Fin 1024) (⟨c % 512, Nat.mod_lt _ (by decide)⟩ : Fin 512))) = el f (r + n) c := by
  refine congrArg f (idx_ext ?_ rfl)
  show (r % 1024 + n) % 1024 = (r + n) % 1024
  omega

/-- Keeping an array shifts its rows by the device's own batch. -/
theorem el_kept (f : Dev nD → Blk Ideal) (c : Dev nD) (r o : ℕ) : el (kept f c) r o = el (f c) (r + 512 * yc c) o :=
  el_mv (f c) (lo c) r o

theorem el_got_low (f : Dev nD → Blk Ideal) (c : Dev nD) (r o : ℕ) (h : r % 1024 < 512) :
    el (got f c) r o = el (f (px c)) (r + 512 * yc c) o := by
  have e : el (got f c) r o = el (kept f (px c)) r o := if_pos h
  rw [e, el_kept, yc_px]

theorem el_got_high (f : Dev nD → Blk Ideal) (c : Dev nD) (r o : ℕ) (h : ¬ r % 1024 < 512) :
    el (got f c) r o = el (f (px (py c))) (r + 512 + 512 * (1 - yc c)) o := by
  have e : el (got f c) r o = kept f (px (py c)) (mv 512 _) := if_neg h
  exact e.trans ((el_mv _ _ _ _).trans (by rw [el_kept, yc_px, yc_py]))

/-- Where a batch lies among the rows kept. -/
def place (c : Dev nD) (b : Fin 2) : ℕ := (b.val + yc c) % 2

section
variable {f : Dev nD → Blk Ideal} {A : Whole} (H : Holds f A) (c : Dev nD) (b : Fin 2) (s : Fin 512) (h : Fin 8) (d : Fin 64)
include H

theorem kept_at : el (kept f c) (512 * place c b + s.val) (64 * h.val + d.val) = A (ix4 b (token (xc c) s) h d) := by
  have hy := yc_lt c
  rw [el_kept, ← H c b s h d]
  exact el_congr _ (by unfold place; omega) rfl

theorem got_at : el (got f c) (512 * place c b + s.val) (64 * h.val + d.val) = A (ix4 b (token (1 - xc c) s) h d) := by
  have hy := yc_lt c
  by_cases hp : place c b = 0
  · rw [el_got_low _ _ _ _ (by omega), ← xc_px, ← H (px c) b s h d]
    exact el_congr _ (by unfold place at hp ⊢; omega) rfl
  · have hp' : place c b = 1 := by unfold place at hp ⊢; omega
    rw [el_got_high _ _ _ _ (by omega), ← xc_py c, ← xc_px, ← H (px (py c)) b s h d]
    exact el_congr _ (by unfold place at hp' ⊢; omega) rfl

end

/-! ## The element over all 1024 keys -/

/-- The weight of key `k` for query `q`, over the whole arrays. -/
def wt (Q K : Whole) (b : Fin 2) (q : Fin 1024) (h : Fin 8) (k : Fin 1024) : EReal :=
  Ideal.exp2 (∑ e : Fin 64, Q (ix4 b q h e) * (scale : EReal) * K (ix4 b k h e))

theorem token_eq (x : ℕ) (hx : x < 2) (k : Fin 512) : token x k = ⟨512 * x + k.val, by omega⟩ := Fin.ext (by
  show (512 * x + k.val) % 1024 = 512 * x + k.val
  omega)

/-- The sum over all keys as a device has them. -/
theorem sum_tokens (x : ℕ) (hx : x < 2) (f : Fin 1024 → EReal) :
    ∑ k, f k = (∑ k : Fin 512, f (token x k)) + (∑ k : Fin 256, f (token (1 - x) ⟨k.val, by omega⟩))
      + ∑ k : Fin 256, f (token (1 - x) ⟨256 + k.val, by omega⟩) := by
  rw [Softmax.sum_cut x hx f]
  simp only [token_eq x hx, token_eq (1 - x) (by omega), Nat.add_assoc]

section
variable {q k v : Dev nD → Blk Ideal} {Q K V : Whole} (HQ : Holds q Q) (HK : Holds k K) (HV : Holds v V)
variable (c : Dev nD) (b : Fin 2) (s : Fin 512) (h : Fin 8) (d : Fin 64)

include HQ HK in
theorem weight_kept (j : Fin 512) :
    weight (kept q c) (kept k c) (512 * place c b + s.val) (512 * place c b + j.val) (64 * h.val)
      = wt Q K b (token (xc c) s) h (token (xc c) j) := by
  simp only [weight, wt, kept_at HQ, kept_at HK]

include HQ HK in
theorem weight_got (j : Fin 512) :
    weight (kept q c) (got k c) (512 * place c b + s.val) (512 * place c b + j.val) (64 * h.val)
      = wt Q K b (token (xc c) s) h (token (1 - xc c) j) := by
  simp only [weight, wt, kept_at HQ, got_at HK]

theorem place_le : 512 * place c b + 512 ≤ 1024 := by unfold place; omega

include HQ HK HV in
theorem head_at :
    headOut (kept q c) (kept k c) (kept v c) (got k c) (got v c) (512 * place c b) (64 * h.val) (place_le c b) (by omega) (ix2 s d)
      = Ideal.div (∑ j : Fin 1024, wt Q K b (token (xc c) s) h j * V (ix4 b j h d)) (∑ j : Fin 1024, wt Q K b (token (xc c) s) h j * 1) := by
  have wl (j : Fin 256) := weight_got HQ HK c b s h ⟨j.val, by omega⟩
  have vl (j : Fin 256) := got_at HV c b ⟨j.val, by omega⟩ h d
  have wh (j : Fin 256) : weight (kept q c) (got k c) (512 * place c b + s.val) (512 * place c b + 256 + j.val) (64 * h.val)
      = wt Q K b (token (xc c) s) h (token (1 - xc c) ⟨256 + j.val, by omega⟩) := by
    rw [Nat.add_assoc]; exact weight_got HQ HK c b s h ⟨256 + j.val, by omega⟩
  have vh (j : Fin 256) : el (got v c) (512 * place c b + 256 + j.val) (64 * h.val + d.val)
      = V (ix4 b (token (1 - xc c) ⟨256 + j.val, by omega⟩) h d) := by
    rw [Nat.add_assoc]; exact got_at HV c b ⟨256 + j.val, by omega⟩ h d
  rw [headOut_at, headLoc_at, headLoc_ones, headRem_at, headRem_ones, headRem_at, headRem_ones,
    sum_tokens (xc c) (xc_lt c), sum_tokens (xc c) (xc_lt c)]
  simp only [weight_kept HQ HK, kept_at HV, wl, vl, wh, vh]

include HQ HK HV in
theorem out_at :
    el (kept (outst q k v) c) (512 * b.val + s.val) (64 * h.val + d.val)
      = Ideal.div (∑ j : Fin 1024, wt Q K b (token (xc c) s) h j * V (ix4 b j h d)) (∑ j : Fin 1024, wt Q K b (token (xc c) s) h j * 1) := by
  have hy := yc_lt c
  rw [← head_at HQ HK HV, el_kept]
  refine outOf_at _ _ _ _ _ (place_le c b) (by omega) (by omega) (by omega) _ (ix2 s d) ?_ ?_
  · show (512 * b.val + s.val + 512 * yc c) % 1024 = 512 * place c b + s.val
    unfold place; omega
  · show (64 * h.val + d.val) % 512 = 64 * h.val + d.val
    omega

end

/-! ## The two programs agree -/

theorem wt_real {Q K : Whole} {b : Fin 2} {q : Fin 1024} {h : Fin 8} {x : Fin 64 → ℝ} {y : Fin 1024 → Fin 64 → ℝ}
    (hQ : ∀ e, Q (ix4 b q h e) = (x e : EReal)) (hK : ∀ k e, K (ix4 b k h e) = (y k e : EReal)) (k : Fin 1024) :
    wt Q K b q h k = ((Real.exp ((∑ e, x e * y k e) * (1 / 8)) : ℝ) : EReal) := by
  unfold wt
  rw [← Softmax.exp2_real]
  simp only [hQ, hK, ← EReal.coe_mul]
  rw [← Softmax.coe_sum, Finset.sum_mul, Finset.sum_mul]
  refine congrArg (fun r : ℝ => Ideal.exp2 (r : EReal)) (Finset.sum_congr rfl fun e _ => ?_)
  unfold scale
  ring

theorem scores_real {Q K : Whole} {b : Fin 2} {q : Fin 1024} {h : Fin 8} {x : Fin 64 → ℝ} {y : Fin 1024 → Fin 64 → ℝ}
    (hQ : ∀ e, Q (ix4 b q h e) = (x e : EReal)) (hK : ∀ k e, K (ix4 b k h e) = (y k e : EReal)) (k : Fin 1024) :
    Cert.ReferenceIdeal.Att.scores Q K (ix4 b h q k) = (((∑ e, x e * y k e) * (1 / 8) : ℝ) : EReal) := by
  rw [Cert.ReferenceIdeal.Att.scores_at]
  simp only [hQ, hK, ← EReal.coe_mul]
  rw [← Softmax.coe_sum, ← EReal.coe_mul]

/-- Where queries and keys are real, the quotient of the sums is the reference's result. -/
theorem softmaxes_agree (Q K V : Whole) (RQ : ∀ i, ∃ r : ℝ, Q i = (r : EReal)) (RK : ∀ i, ∃ r : ℝ, K i = (r : EReal))
    (b : Fin 2) (q : Fin 1024) (h : Fin 8) (d : Fin 64) :
    Ideal.div (∑ j : Fin 1024, wt Q K b q h j * V (ix4 b j h d)) (∑ j : Fin 1024, wt Q K b q h j * 1)
      = Cert.ReferenceIdeal.Att.result Q K V (ix4 b q h d) := by
  choose x hx using fun e : Fin 64 => RQ (ix4 b q h e)
  choose y hy using fun (k : Fin 1024) (e : Fin 64) => RK (ix4 b k h e)
  have hs := scores_real hx hy
  obtain ⟨M, hM⟩ := Softmax.max_real (n := 1023) (fun k => Cert.ReferenceIdeal.Att.scores Q K (ix4 b h q k)) _ hs
  have hM' : Cert.ReferenceIdeal.Att.largest (Cert.ReferenceIdeal.Att.scores Q K) (ix3 b h q) = (M : EReal) :=
    (Cert.ReferenceIdeal.Att.largest_at _ b h q).trans hM
  rw [Cert.ReferenceIdeal.Att.result_at]
  simp only [Cert.ReferenceIdeal.Att.weights_at, Cert.ReferenceIdeal.Att.expos_at, hM', hs, wt_real hx hy]
  exact Softmax.softmax_eq (n := 1023) _ _ M

/-! ## The devices' results -/

section
variable (m : (ℓ : Loc nD τ sig) → Buf (Elt Ideal) ℓ) (Q K V : Whole)
variable (BQ : ∀ c : Dev nD, m ((c.tc : Thread nD τ).loc main_arg0) = block c Q)
variable (BK : ∀ c : Dev nD, m ((c.tc : Thread nD τ).loc main_arg1) = block c K)
variable (BV : ∀ c : Dev nD, m ((c.tc : Thread nD τ).loc main_arg2) = block c V)

include BQ in
theorem holds_q : Holds (qv m) Q := fun c b s h d => by rw [qv_eq, el_cast, BQ c, block_at]
include BK in
theorem holds_k : Holds (kv m) K := fun c b s h d => by rw [kv_eq, el_cast, BK c, block_at]
include BV in
theorem holds_v : Holds (vv m) V := fun c b s h d => by rw [vv_eq, el_cast, BV c, block_at]

include BQ BK BV in
/-- Each device's result is its block of the reference's. -/
theorem value (RQ : ∀ i, ∃ r : ℝ, Q i = (r : EReal)) (RK : ∀ i, ∃ r : ℝ, K i = (r : EReal)) (c : Dev nD) :
    V2 m c main_v6 = block c (Cert.ReferenceIdeal.Att.result Q K V) := by
  rw [v6_eq]
  refine funext fun i => ?_
  obtain ⟨b, s, h, d, rfl⟩ : ∃ (b : Fin 2) (s : Fin 512) (h : Fin 8) (d : Fin 64), i = ix4 b s h d := ⟨i 0, i 1, i 2, i 3, eq_ix4 i⟩
  rw [block_at, ← softmaxes_agree Q K V RQ RK, ← out_at (holds_q m Q BQ) (holds_k m K BK) (holds_v m V BV)]
  exact cast_at (ov m c) b s h d
end

end Cert.KernelIdeal.Att
end
-- ==== Proof.Finite.lean ====
/-
# The precondition

What it says: every element of the queries' and the keys' blocks is a real number; and so is every element of the whole
arrays whose blocks they are.
-/
module

public import proofs.«01_k».proof.Defs
public import proofs.«01_k».proof.Proof.Value
public import Idealize.ShloMosaic.Lib.ReduceAll

@[expose] public section

noncomputable section

namespace Cert.KernelIdeal.Att

open Idealize.ShloMosaic Idealize.ShloMosaic.TcCoe Idealize.SL.Sem

/-- The shape relations that the precondition's operations ask for, of a block and of a whole array. -/
theorem pre_facts : Cert.Pre_finite_KernelIdeal.Facts where
  bcast_S_S2x512x8x64 := by decide
  reducesTo_S2x512x8x64_S_d0_1_2_3 := by decide
  h_S_ := by decide
theorem pre_facts_whole : Cert.Pre_finite_ReferenceIdeal.Facts where
  bcast_S_S2x1024x8x64 := by decide
  reducesTo_S2x1024x8x64_S_d0_1_2_3 := by decide
  h_S_ := by decide

instance : Subsingleton (⟨0, ![]⟩ : Shape).Idx := ⟨fun _ _ => funext fun a => a.elim0⟩

/-- An element that compares below infinity in absolute value is real. -/
theorem real_of_cmp {x : EReal} (h : Ideal.cmp .olt (max x (-x)) (Ideal.ofBits .bf16 0x7F80#16) = 1#1) : ∃ r : ℝ, x = (r : EReal) := by
  rw [Softmax.pos_inf] at h
  refine Softmax.real_of_abs_lt ?_
  by_contra hn
  have h' : BitVec.ofBool (decide (max x (-x) < ⊤)) = 1#1 := h
  rw [decide_eq_false hn] at h'
  exact absurd h' (by decide)

/-- The predicate of blocks says that queries and keys are real. -/
theorem pre_real [Cert.Pre_finite_KernelIdeal.Facts] (q k v : Part)
    (h : Cert.Pre_finite_KernelIdeal.fn (F := Ideal) q k v = fun _ => 1#1) :
    (∀ i, ∃ r : ℝ, q i = (r : EReal)) ∧ ∀ i, ∃ r : ℝ, k i = (r : EReal) := by
  have h0 := congrFun h fun a => a.elim0
  obtain ⟨hq, hk⟩ := IntOp.andi_eq_one.1 h0
  exact ⟨fun i => real_of_cmp (Host.reduce_andi_all _ _ _ _ _ hq i), fun i => real_of_cmp (Host.reduce_andi_all _ _ _ _ _ hk i)⟩

/-- Every element of a whole array is an element of some device's block. -/
theorem real_of_blocks (A : Whole) (h : ∀ (c : Dev nD) (i : S2x512x8x64.Idx), ∃ r : ℝ, block c A i = (r : EReal)) (i) :
    ∃ r : ℝ, A i = (r : EReal) := by
  obtain ⟨b, t, hd, d, rfl⟩ : ∃ (b : Fin 2) (t : Fin 1024) (hd : Fin 8) (d : Fin 64), i = ix4 b t hd d := ⟨i 0, i 1, i 2, i 3, eq_ix4 i⟩
  have ht := t.isLt
  have hx : xc (⟨4 * (t.val / 512), show _ < 8 by omega⟩ : Dev nD) = t.val / 512 := by show 4 * (t.val / 512) / 4 = _; omega
  have e := h ⟨4 * (t.val / 512), show _ < 8 by omega⟩ (ix4 b (⟨t.val % 512, by omega⟩ : Fin 512) hd d)
  rw [block_at, hx] at e
  rwa [show token (t.val / 512) ⟨t.val % 512, by omega⟩ = t from Fin.ext (by
    show (512 * (t.val / 512) + t.val % 512) % 1024 = t.val
    omega)] at e

end Cert.KernelIdeal.Att
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Plain
public import proofs.«01_k».proof.Proof.Value
public import proofs.«01_k».proof.Proof.Finite
public import Idealize.ShloMosaic.Adequacy
public import Idealize.ShloMosaic.Init

@[expose] public section

noncomputable section

namespace Cert.Proof

open Idealize.ShloMosaic Idealize.SL.Sem

/-- Every run of the kernel as printed ends, with its arguments unchanged and every counter at zero. -/
theorem kernel_frame : Cert.quiescent_Kernel := fun m ρ _ =>
  (θ_run _ _ _).mono (fun _ h => ⟨fun c => (h.1 c).2, h.2⟩)
    (@Cert.KernelIdeal.Att.run_main Bits _ Cert.KernelIdeal.Att.byBits m ρ)

/-- The same of the kernel whose scale is named, over the extended reals. -/
theorem ideal_frame : Cert.quiescent_KernelIdeal := fun m ρ _ =>
  (θ_run _ _ _).mono (fun _ h => ⟨fun c => (h.1 c).2, h.2⟩)
    (Cert.KernelIdeal.Att.run_main (F := Ideal) m ρ)

/-- The same of the reference. -/
theorem reference_frame : Cert.quiescent_ReferenceIdeal := fun m ρ _ =>
  (θ_run _ _ _).mono (fun r h => ⟨fun c => (h c).2, sem_eq_zero_of_no_sems (by decide) r.2⟩)
    (Cert.ReferenceIdeal.Value.run (F := Ideal) m ρ)

/-- The named constant stands for the value that the table gives it. -/
theorem scale_named : Cert.preserves_Kernel_KernelIdeal :=
  IdealRules.named_const.statement Cert.KernelIdeal.κ "scale" .bf16 0x3E39#16 _ rfl

/-- Over the extended reals, where queries and keys are finite, each device's result is its block of the
    reference's. -/
theorem value : Cert.algebraic_KernelIdeal_ReferenceIdeal_pre_finite_KernelIdeal
    (hPre_finite_KernelIdeal := Cert.KernelIdeal.Att.pre_facts) := by
  intro m g m' g' hpre hargs
  have real (c : Dev Cert.KernelIdeal.nD) := @Cert.KernelIdeal.Att.pre_real Cert.KernelIdeal.Att.pre_facts _ _ _ (hpre c)
  refine ⟨_, (θ_run _ _ _).mono (fun r h c => ⟨(h.1 c).1.trans ?_, (h.1 c).2⟩) (Cert.KernelIdeal.Att.run_main (F := Ideal) m g),
    (θ_run _ _ _).mono (fun r h => h 0) (Cert.ReferenceIdeal.Att.run m' g')⟩
  refine Cert.KernelIdeal.Att.value m _ _ _ (fun c => (hargs c).1) (fun c => (hargs c).2.1) (fun c => (hargs c).2.2)
    (Cert.KernelIdeal.Att.real_of_blocks _ fun c i => ?_) (Cert.KernelIdeal.Att.real_of_blocks _ fun c i => ?_) c
  · obtain ⟨x, hx⟩ := (real c).1 i
    exact ⟨x, (congrFun (hargs c).1 i).symm.trans hx⟩
  · obtain ⟨x, hx⟩ := (real c).2 i
    exact ⟨x, (congrFun (hargs c).2.1 i).symm.trans hx⟩

theorem claim : Cert.Claim :=
  ⟨Cert.Kernel.Gen.facts, Cert.KernelIdeal.Gen.facts, Cert.ReferenceIdeal.Gen.facts,
    Cert.KernelIdeal.Att.pre_facts, Cert.KernelIdeal.Att.pre_facts_whole,
    kernel_frame, ideal_frame, fun m g _ => ideal_frame m g trivial,
    reference_frame, fun m g _ => reference_frame m g trivial, scale_named, value⟩

end Cert.Proof

end
